-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_session_begun [hPre_first_session_begun : Cert.Pre_first_session_begun.Facts] (m : (ℓ : Loc Cert.KernelIdeal.nD Cert.KernelIdeal.τ Cert.KernelIdeal.sig) → Buf (Elt Ideal) ℓ) : Prop :=
  ∀ c : Dev Cert.KernelIdeal.nD,
    (Cert.Pre_first_session_begun.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_session_begun [hPre_first_session_begun : Cert.Pre_first_session_begun.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_session_begun.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_first_session_begun [hKernelIdeal : Cert.KernelIdeal.Facts] [hPre_first_session_begun : Cert.Pre_first_session_begun.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_session_begun m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_first_session_begun [hReferenceIdeal : Cert.ReferenceIdeal.Facts] [hPre_first_session_begun : Cert.Pre_first_session_begun.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_session_begun m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_first_session_begun [hKernelIdeal : Cert.KernelIdeal.Facts] [hReferenceIdeal : Cert.ReferenceIdeal.Facts] [hPre_first_session_begun : Cert.Pre_first_session_begun.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_session_begun m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_first_session_begun : Cert.Pre_first_session_begun.Facts),
    quiescent_Kernel (hKernel := hKernel)
    ∧ quiescent_KernelIdeal (hKernelIdeal := hKernelIdeal)
    ∧ quiescent_KernelIdeal_pre_first_session_begun (hKernelIdeal := hKernelIdeal) (hPre_first_session_begun := hPre_first_session_begun)
    ∧ quiescent_ReferenceIdeal (hReferenceIdeal := hReferenceIdeal)
    ∧ quiescent_ReferenceIdeal_pre_first_session_begun (hReferenceIdeal := hReferenceIdeal) (hPre_first_session_begun := hPre_first_session_begun)
    ∧ preserves_Kernel_KernelIdeal
    ∧ algebraic_KernelIdeal_ReferenceIdeal_pre_first_session_begun (hKernelIdeal := hKernelIdeal) (hReferenceIdeal := hReferenceIdeal) (hPre_first_session_begun := hPre_first_session_begun)
-- ==== Pre_first_session_begun.lean ====
abbrev S32768x256 : Shape := ⟨2, ![32768, 256]⟩
abbrev S32768 : Shape := ⟨1, ![32768]⟩
abbrev S100000x256 : Shape := ⟨2, ![100000, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32768x256 .f32) (main_arg1 : IVec S32768 32) (main_arg2 : FVec F S100000x256 .f32) (main_arg3 : FVec F S256x256 .f32) (main_arg4 : FVec F S256 .f32) (main_arg5 : FVec F S256x256 .f32) (main_arg6 : FVec F S256 .f32) (main_arg7 : FVec F S1x256 .f32) (main_arg8 : FVec F S1 .f32) (main_arg9 : FVec F S256x512 .f32) (main_arg10 : FVec F S256 .f32) : IVec S_ 1 :=
  let main_c : IVec S_ 32 := constantI S_ 32 0#32
  let main_v0 : IVec S32768 32 := broadcastInDim S32768 ![] bcast_S_S32768 main_c
  let main_v1 : IVec S32768 1 := cmpi .sle main_arg1 main_v0
  let main_c_0 : IVec S_ 1 := constantI S_ 1 0#1
  let main_v2 : IVec S_ 1 := (fun x v => Host.reduce IntOp.ori x v reducesTo_S32768_S_d0 h_S_) main_v1 main_c_0
  main_v2
-- ==== Kernel.lean ====
abbrev S32768x256 : Shape := ⟨2, ![32768, 256]⟩
abbrev S32768 : Shape := ⟨1, ![32768]⟩
abbrev S100000x256 : Shape := ⟨2, ![100000, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S256x128 : Shape := ⟨2, ![256, 128]⟩
abbrev S8x1x4096 : Shape := ⟨3, ![8, 1, 4096]⟩
abbrev S16x256 : Shape := ⟨2, ![16, 256]⟩
abbrev S16x100000 : Shape := ⟨2, ![16, 100000]⟩
abbrev S1x1x4096 : Shape := ⟨3, ![1, 1, 4096]⟩
abbrev S4096x256 : Shape := ⟨2, ![4096, 256]⟩
abbrev S10240x256 : Shape := ⟨2, ![10240, 256]⟩
abbrev S16x10240 : Shape := ⟨2, ![16, 10240]⟩
abbrev S_ : Shape := ⟨0, ![]⟩
abbrev S1x256x128 : Shape := ⟨3, ![1, 256, 128]⟩
abbrev S1x1x1 : Shape := ⟨3, ![1, 1, 1]⟩
abbrev S1x4096 : Shape := ⟨2, ![1, 4096]⟩
abbrev S16x4096 : Shape := ⟨2, ![16, 4096]⟩
abbrev S16x512 : Shape := ⟨2, ![16, 512]⟩

abbrev nBuf : Space → Nat
  | .hbm => 18
  | .vmem => 18
  | .smem => 1
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S256x512, .f32⟩
  | .hbm, ⟨10, _⟩ => ⟨S256, .f32⟩
  | .hbm, ⟨11, _⟩ => ⟨S256x128, .i32⟩
  | .hbm, ⟨12, _⟩ => ⟨S8x1x4096, .i32⟩
  | .hbm, ⟨13, _⟩ => ⟨S256, .f32⟩
  | .hbm, ⟨14, _⟩ => ⟨S1x256, .f32⟩
  | .hbm, ⟨15, _⟩ => ⟨S16x256, .f32⟩
  | .hbm, ⟨16, _⟩ => ⟨S1x256, .f32⟩
  | .hbm, ⟨17, _⟩ => ⟨S16x100000, .f32⟩
  | .local _ .vmem, ⟨0, _⟩ => ⟨S256x128, .i32⟩
  | .local _ .vmem, ⟨1, _⟩ => ⟨S1x1x4096, .i32⟩
  | .local _ .vmem, ⟨2, _⟩ => ⟨S1x1x4096, .i32⟩
  | .local _ .vmem, ⟨3, _⟩ => ⟨S4096x256, .f32⟩
  | .local _ .vmem, ⟨4, _⟩ => ⟨S4096x256, .f32⟩
  | .local _ .vmem, ⟨5, _⟩ => ⟨S256x256, .f32⟩
  | .local _ .vmem, ⟨6, _⟩ => ⟨S256x256, .f32⟩
  | .local _ .vmem, ⟨7, _⟩ => ⟨S16x256, .f32⟩
  | .local _ .vmem, ⟨8, _⟩ => ⟨S1x256, .f32⟩
  | .local _ .vmem, ⟨9, _⟩ => ⟨S256x512, .f32⟩
  | .local _ .vmem, ⟨10, _⟩ => ⟨S1x256, .f32⟩
  | .local _ .vmem, ⟨11, _⟩ => ⟨S10240x256, .f32⟩
  | .local _ .vmem, ⟨12, _⟩ => ⟨S10240x256, .f32⟩
  | .local _ .vmem, ⟨13, _⟩ => ⟨S16x10240, .f32⟩
  | .local _ .vmem, ⟨14, _⟩ => ⟨S16x10240, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | .local _ .smem, ⟨0, _⟩ => ⟨S1, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v17 : BitVec 32) : Fin 2 → Nat :=
  let c1_i32 : BitVec 32 := 1#32
  let v18 : BitVec 32 := Scalar.subi v17 c1_i32
  let c0_i32_6 : BitVec 32 := 0#32
  let v19 : BitVec 32 := Scalar.maxsi v18 c0_i32_6
  let c0_i32_9 : BitVec 32 := 0#32
  ![v19.toNat, 0]

def k0_off2 (v28 : BitVec 32) : Fin 2 → Nat :=
  let c1_i32_12 : BitVec 32 := 1#32
  let v29 : BitVec 32 := Scalar.subi v28 c1_i32_12
  let c0_i32_13 : BitVec 32 := 0#32
  let v30 : BitVec 32 := Scalar.maxsi v29 c0_i32_13
  let c0_i32_16 : BitVec 32 := 0#32
  ![v30.toNat, 0]

def k0_off3 (v39 : BitVec 32) : Fin 2 → Nat :=
  let c1_i32_18 : BitVec 32 := 1#32
  let v40 : BitVec 32 := Scalar.subi v39 c1_i32_18
  let c0_i32_19 : BitVec 32 := 0#32
  let v41 : BitVec 32 := Scalar.maxsi v40 c0_i32_19
  let c0_i32_22 : BitVec 32 := 0#32
  ![v41.toNat, 0]

def k0_off4 (v50 : BitVec 32) : Fin 2 → Nat :=
  let c1_i32_24 : BitVec 32 := 1#32
  let v51 : BitVec 32 := Scalar.subi v50 c1_i32_24
  let c0_i32_25 : BitVec 32 := 0#32
  let v52 : BitVec 32 := Scalar.maxsi v51 c0_i32_25
  let c0_i32_28 : BitVec 32 := 0#32
  ![v52.toNat, 0]

def k0_off5 (v61 : BitVec 32) : Fin 2 → Nat :=
  let c1_i32_30 : BitVec 32 := 1#32
  let v62 : BitVec 32 := Scalar.subi v61 c1_i32_30
  let c0_i32_31 : BitVec 32 := 0#32
  let v63 : BitVec 32 := Scalar.maxsi v62 c0_i32_31
  let c0_i32_34 : BitVec 32 := 0#32
  ![v63.toNat, 0]

def k0_off6 (v72 : BitVec 32) : Fin 2 → Nat :=
  let c1_i32_36 : BitVec 32 := 1#32
  let v73 : BitVec 32 := Scalar.subi v72 c1_i32_36
  let c0_i32_37 : BitVec 32 := 0#32
  let v74 : BitVec 32 := Scalar.maxsi v73 c0_i32_37
  let c0_i32_40 : BitVec 32 := 0#32
  ![v74.toNat, 0]

def k0_off7 (v83 : BitVec 32) : Fin 2 → Nat :=
  let c1_i32_42 : BitVec 32 := 1#32
  let v84 : BitVec 32 := Scalar.subi v83 c1_i32_42
  let c0_i32_43 : BitVec 32 := 0#32
  let v85 : BitVec 32 := Scalar.maxsi v84 c0_i32_43
  let c0_i32_46 : BitVec 32 := 0#32
  ![v85.toNat, 0]

def k0_off8 (v94 : BitVec 32) : Fin 2 → Nat :=
  let c1_i32_48 : BitVec 32 := 1#32
  let v95 : BitVec 32 := Scalar.subi v94 c1_i32_48
  let c0_i32_49 : BitVec 32 := 0#32
  let v96 : BitVec 32 := Scalar.maxsi v95 c0_i32_49
  let c0_i32_52 : BitVec 32 := 0#32
  ![v96.toNat, 0]

def k0_off9 (v105 : BitVec 32) : Fin 2 → Nat :=
  let c1_i32_55 : BitVec 32 := 1#32
  let v106 : BitVec 32 := Scalar.subi v105 c1_i32_55
  let c0_i32_56 : BitVec 32 := 0#32
  let v107 : BitVec 32 := Scalar.maxsi v106 c0_i32_56
  let c0_i32_59 : BitVec 32 := 0#32
  ![v107.toNat, 0]

def k0_off10 (v116 : BitVec 32) : Fin 2 → Nat :=
  let c1_i32_61 : BitVec 32 := 1#32
  let v117 : BitVec 32 := Scalar.subi v116 c1_i32_61
  let c0_i32_62 : BitVec 32 := 0#32
  let v118 : BitVec 32 := Scalar.maxsi v117 c0_i32_62
  let c0_i32_65 : BitVec 32 := 0#32
  ![v118.toNat, 0]

def k0_off11 (v127 : BitVec 32) : Fin 2 → Nat :=
  let c1_i32_67 : BitVec 32 := 1#32
  let v128 : BitVec 32 := Scalar.subi v127 c1_i32_67
  let c0_i32_68 : BitVec 32 := 0#32
  let v129 : BitVec 32 := Scalar.maxsi v128 c0_i32_68
  let c0_i32_71 : BitVec 32 := 0#32
  ![v129.toNat, 0]

def k0_off12 (v138 : BitVec 32) : Fin 2 → Nat :=
  let c1_i32_73 : BitVec 32 := 1#32
  let v139 : BitVec 32 := Scalar.subi v138 c1_i32_73
  let c0_i32_74 : BitVec 32 := 0#32
  let v140 : BitVec 32 := Scalar.maxsi v139 c0_i32_74
  let c0_i32_77 : BitVec 32 := 0#32
  ![v140.toNat, 0]

def k0_off13 (v149 : BitVec 32) : Fin 2 → Nat :=
  let c1_i32_79 : BitVec 32 := 1#32
  let v150 : BitVec 32 := Scalar.subi v149 c1_i32_79
  let c0_i32_80 : BitVec 32 := 0#32
  let v151 : BitVec 32 := Scalar.maxsi v150 c0_i32_80
  let c0_i32_83 : BitVec 32 := 0#32
  ![v151.toNat, 0]

def k0_off14 (v160 : BitVec 32) : Fin 2 → Nat :=
  let c1_i32_85 : BitVec 32 := 1#32
  let v161 : BitVec 32 := Scalar.subi v160 c1_i32_85
  let c0_i32_86 : BitVec 32 := 0#32
  let v162 : BitVec 32 := Scalar.maxsi v161 c0_i32_86
  let c0_i32_89 : BitVec 32 := 0#32
  ![v162.toNat, 0]

def k0_off15 (v171 : BitVec 32) : Fin 2 → Nat :=
  let c1_i32_91 : BitVec 32 := 1#32
  let v172 : BitVec 32 := Scalar.subi v171 c1_i32_91
  let c0_i32_92 : BitVec 32 := 0#32
  let v173 : BitVec 32 := Scalar.maxsi v172 c0_i32_92
  let c0_i32_95 : BitVec 32 := 0#32
  ![v173.toNat, 0]

def k0_off16 (v182 : BitVec 32) : Fin 2 → Nat :=
  let c1_i32_97 : BitVec 32 := 1#32
  let v183 : BitVec 32 := Scalar.subi v182 c1_i32_97
  let c0_i32_98 : BitVec 32 := 0#32
  let v184 : BitVec 32 := Scalar.maxsi v183 c0_i32_98
  let c0_i32_101 : BitVec 32 := 0#32
  ![v184.toNat, 0]

def k0_chk16 (i : grid0.Coords) (v182 : BitVec 32) : Prop :=
  (∀ (k0_h1 : k0_cond1 i = 1#1), ∀ a, (k0_off16 v182) a + S1x256.size a ≤ S32768x256.size a)
theorem k0_off16_inb : ∀ (i : grid0.Coords) (v182 : BitVec 32) (k0_hw16 : k0_chk16 i v182), ∀ (k0_h1 : k0_cond1 i = 1#1), ∀ a, (k0_off16 v182) a + S1x256.size a ≤ S32768x256.size a := fun i v182 k0_hw16 k0_h1 => k0_hw16 k0_h1

def k0_off17 (v17 : BitVec 32) : Fin 2 → Nat :=
  let c1_i32 : BitVec 32 := 1#32
  let v18 : BitVec 32 := Scalar.subi v17 c1_i32
  let c0_i32_6 : BitVec 32 := 0#32
  let v19 : BitVec 32 := Scalar.maxsi v18 c0_i32_6
  let c0_i32_104 : BitVec 32 := 0#32
  ![v19.toNat, 0]

def k0_chk1 (i : grid0.Coords) (v17 : BitVec 32) : Prop :=
  (∀ (k0_h1 : k0_cond1 i = 1#1), ∀ a, (k0_off1 v17) a + S1x256.size a ≤ S32768x256.size a) ∧
  (∀ (k0_h1 : k0_cond1 i = 1#1), ∀ a, (k0_off17 v17) a + S1x256.size a ≤ S32768x256.size a)
theorem k0_off1_inb : ∀ (i : grid0.Coords) (v17 : BitVec 32) (k0_hw1 : k0_chk1 i v17), ∀ (k0_h1 : k0_cond1 i = 1#1), ∀ a, (k0_off1 v17) a + S1x256.size a ≤ S32768x256.size a := fun i v17 k0_hw1 k0_h1 => k0_hw1.1 k0_h1
theorem k0_off17_inb : ∀ (i : grid0.Coords) (v17 : BitVec 32) (k0_hw1 : k0_chk1 i v17), ∀ (k0_h1 : k0_cond1 i = 1#1), ∀ a, (k0_off17 v17) a + S1x256.size a ≤ S32768x256.size a := fun i v17 k0_hw1 k0_h1 => k0_hw1.2 k0_h1

def k0_off18 (v28 : BitVec 32) : Fin 2 → Nat :=
  let c1_i32_12 : BitVec 32 := 1#32
  let v29 : BitVec 32 := Scalar.subi v28 c1_i32_12
  let c0_i32_13 : BitVec 32 := 0#32
  let v30 : BitVec 32 := Scalar.maxsi v29 c0_i32_13
  let c0_i32_107 : BitVec 32 := 0#32
  ![v30.toNat, 0]

def k0_chk2 (i : grid0.Coords) (v28 : BitVec 32) : Prop :=
  (∀ (k0_h1 : k0_cond1 i = 1#1), ∀ a, (k0_off2 v28) a + S1x256.size a ≤ S32768x256.size a) ∧
  (∀ (k0_h1 : k0_cond1 i = 1#1), ∀ a, (k0_off18 v28) a + S1x256.size a ≤ S32768x256.size a)
theorem k0_off2_inb : ∀ (i : grid0.Coords) (v28 : BitVec 32) (k0_hw2 : k0_chk2 i v28), ∀ (k0_h1 : k0_cond1 i = 1#1), ∀ a, (k0_off2 v28) a + S1x256.size a ≤ S32768x256.size a := fun i v28 k0_hw2 k0_h1 => k0_hw2.1 k0_h1
theorem k0_off18_inb : ∀ (i : grid0.Coords) (v28 : BitVec 32) (k0_hw2 : k0_chk2 i v28), ∀ (k0_h1 : k0_cond1 i = 1#1), ∀ a, (k0_off18 v28) a + S1x256.size a ≤ S32768x256.size a := fun i v28 k0_hw2 k0_h1 => k0_hw2.2 k0_h1

def k0_off19 (v39 : BitVec 32) : Fin 2 → Nat :=
  let c1_i32_18 : BitVec 32 := 1#32
  let v40 : BitVec 32 := Scalar.subi v39 c1_i32_18
  let c0_i32_19 : BitVec 32 := 0#32
  let v41 : BitVec 32 := Scalar.maxsi v40 c0_i32_19
  let c0_i32_110 : BitVec 32 := 0#32
  ![v41.toNat, 0]

def k0_chk3 (i : grid0.Coords) (v39 : BitVec 32) : Prop :=
  (∀ (k0_h1 : k0_cond1 i = 1#1), ∀ a, (k0_off3 v39) a + S1x256.size a ≤ S32768x256.size a) ∧
  (∀ (k0_h1 : k0_cond1 i = 1#1), ∀ a, (k0_off19 v39) a + S1x256.size a ≤ S32768x256.size a)
theorem k0_off3_inb : ∀ (i : grid0.Coords) (v39 : BitVec 32) (k0_hw3 : k0_chk3 i v39), ∀ (k0_h1 : k0_cond1 i = 1#1), ∀ a, (k0_off3 v39) a + S1x256.size a ≤ S32768x256.size a := fun i v39 k0_hw3 k0_h1 => k0_hw3.1 k0_h1
theorem k0_off19_inb : ∀ (i : grid0.Coords) (v39 : BitVec 32) (k0_hw3 : k0_chk3 i v39), ∀ (k0_h1 : k0_cond1 i = 1#1), ∀ a, (k0_off19 v39) a + S1x256.size a ≤ S32768x256.size a := fun i v39 k0_hw3 k0_h1 => k0_hw3.2 k0_h1

def k0_off20 (v50 : BitVec 32) : Fin 2 → Nat :=
  let c1_i32_24 : BitVec 32 := 1#32
  let v51 : BitVec 32 := Scalar.subi v50 c1_i32_24
  let c0_i32_25 : BitVec 32 := 0#32
  let v52 : BitVec 32 := Scalar.maxsi v51 c0_i32_25
  let c0_i32_113 : BitVec 32 := 0#32
  ![v52.toNat, 0]

def k0_chk4 (i : grid0.Coords) (v50 : BitVec 32) : Prop :=
  (∀ (k0_h1 : k0_cond1 i = 1#1), ∀ a, (k0_off4 v50) a + S1x256.size a ≤ S32768x256.size a) ∧
  (∀ (k0_h1 : k0_cond1 i = 1#1), ∀ a, (k0_off20 v50) a + S1x256.size a ≤ S32768x256.size a)
theorem k0_off4_inb : ∀ (i : grid0.Coords) (v50 : BitVec 32) (k0_hw4 : k0_chk4 i v50), ∀ (k0_h1 : k0_cond1 i = 1#1), ∀ a, (k0_off4 v50) a + S1x256.size a ≤ S32768x256.size a := fun i v50 k0_hw4 k0_h1 => k0_hw4.1 k0_h1
theorem k0_off20_inb : ∀ (i : grid0.Coords) (v50 : BitVec 32) (k0_hw4 : k0_chk4 i v50), ∀ (k0_h1 : k0_cond1 i = 1#1), ∀ a, (k0_off20 v50) a + S1x256.size a ≤ S32768x256.size a := fun i v50 k0_hw4 k0_h1 => k0_hw4.2 k0_h1

def k0_off21 (v61 : BitVec 32) : Fin 2 → Nat :=
  let c1_i32_30 : BitVec 32 := 1#32
  let v62 : BitVec 32 := Scalar.subi v61 c1_i32_30
  let c0_i32_31 : BitVec 32 := 0#32
  let v63 : BitVec 32 := Scalar.maxsi v62 c0_i32_31
  let c0_i32_116 : BitVec 32 := 0#32
  ![v63.toNat, 0]

def k0_chk5 (i : grid0.Coords) (v61 : BitVec 32) : Prop :=
  (∀ (k0_h1 : k0_cond1 i = 1#1), ∀ a, (k0_off5 v61) a + S1x256.size a ≤ S32768x256.size a) ∧
  (∀ (k0_h1 : k0_cond1 i = 1#1), ∀ a, (k0_off21 v61) a + S1x256.size a ≤ S32768x256.size a)
theorem k0_off5_inb : ∀ (i : grid0.Coords) (v61 : BitVec 32) (k0_hw5 : k0_chk5 i v61), ∀ (k0_h1 : k0_cond1 i = 1#1), ∀ a, (k0_off5 v61) a + S1x256.size a ≤ S32768x256.size a := fun i v61 k0_hw5 k0_h1 => k0_hw5.1 k0_h1
theorem k0_off21_inb : ∀ (i : grid0.Coords) (v61 : BitVec 32) (k0_hw5 : k0_chk5 i v61), ∀ (k0_h1 : k0_cond1 i = 1#1), ∀ a, (k0_off21 v61) a + S1x256.size a ≤ S32768x256.size a := fun i v61 k0_hw5 k0_h1 => k0_hw5.2 k0_h1

def k0_off22 (v72 : BitVec 32) : Fin 2 → Nat :=
  let c1_i32_36 : BitVec 32 := 1#32
  let v73 : BitVec 32 := Scalar.subi v72 c1_i32_36
  let c0_i32_37 : BitVec 32 := 0#32
  let v74 : BitVec 32 := Scalar.maxsi v73 c0_i32_37
  let c0_i32_119 : BitVec 32 := 0#32
  ![v74.toNat, 0]

def k0_chk6 (i : grid0.Coords) (v72 : BitVec 32) : Prop :=
  (∀ (k0_h1 : k0_cond1 i = 1#1), ∀ a, (k0_off6 v72) a + S1x256.size a ≤ S32768x256.size a) ∧
  (∀ (k0_h1 : k0_cond1 i = 1#1), ∀ a, (k0_off22 v72) a + S1x256.size a ≤ S32768x256.size a)
theorem k0_off6_inb : ∀ (i : grid0.Coords) (v72 : BitVec 32) (k0_hw6 : k0_chk6 i v72), ∀ (k0_h1 : k0_cond1 i = 1#1), ∀ a, (k0_off6 v72) a + S1x256.size a ≤ S32768x256.size a := fun i v72 k0_hw6 k0_h1 => k0_hw6.1 k0_h1
theorem k0_off22_inb : ∀ (i : grid0.Coords) (v72 : BitVec 32) (k0_hw6 : k0_chk6 i v72), ∀ (k0_h1 : k0_cond1 i = 1#1), ∀ a, (k0_off22 v72) a + S1x256.size a ≤ S32768x256.size a := fun i v72 k0_hw6 k0_h1 => k0_hw6.2 k0_h1

def k0_off23 (v83 : BitVec 32) : Fin 2 → Nat :=
  let c1_i32_42 : BitVec 32 := 1#32
  let v84 : BitVec 32 := Scalar.subi v83 c1_i32_42
  let c0_i32_43 : BitVec 32 := 0#32
  let v85 : BitVec 32 := Scalar.maxsi v84 c0_i32_43
  let c0_i32_122 : BitVec 32 := 0#32
  ![v85.toNat, 0]

def k0_chk7 (i : grid0.Coords) (v83 : BitVec 32) : Prop :=
  (∀ (k0_h1 : k0_cond1 i = 1#1), ∀ a, (k0_off7 v83) a + S1x256.size a ≤ S32768x256.size a) ∧
  (∀ (k0_h1 : k0_cond1 i = 1#1), ∀ a, (k0_off23 v83) a + S1x256.size a ≤ S32768x256.size a)
theorem k0_off7_inb : ∀ (i : grid0.Coords) (v83 : BitVec 32) (k0_hw7 : k0_chk7 i v83), ∀ (k0_h1 : k0_cond1 i = 1#1), ∀ a, (k0_off7 v83) a + S1x256.size a ≤ S32768x256.size a := fun i v83 k0_hw7 k0_h1 => k0_hw7.1 k0_h1
theorem k0_off23_inb : ∀ (i : grid0.Coords) (v83 : BitVec 32) (k0_hw7 : k0_chk7 i v83), ∀ (k0_h1 : k0_cond1 i = 1#1), ∀ a, (k0_off23 v83) a + S1x256.size a ≤ S32768x256.size a := fun i v83 k0_hw7 k0_h1 => k0_hw7.2 k0_h1

def k0_off24 (v94 : BitVec 32) : Fin 2 → Nat :=
  let c1_i32_48 : BitVec 32 := 1#32
  let v95 : BitVec 32 := Scalar.subi v94 c1_i32_48
  let c0_i32_49 : BitVec 32 := 0#32
  let v96 : BitVec 32 := Scalar.maxsi v95 c0_i32_49
  let c0_i32_125 : BitVec 32 := 0#32
  ![v96.toNat, 0]

def k0_chk8 (i : grid0.Coords) (v94 : BitVec 32) : Prop :=
  (∀ (k0_h1 : k0_cond1 i = 1#1), ∀ a, (k0_off8 v94) a + S1x256.size a ≤ S32768x256.size a) ∧
  (∀ (k0_h1 : k0_cond1 i = 1#1), ∀ a, (k0_off24 v94) a + S1x256.size a ≤ S32768x256.size a)
theorem k0_off8_inb : ∀ (i : grid0.Coords) (v94 : BitVec 32) (k0_hw8 : k0_chk8 i v94), ∀ (k0_h1 : k0_cond1 i = 1#1), ∀ a, (k0_off8 v94) a + S1x256.size a ≤ S32768x256.size a := fun i v94 k0_hw8 k0_h1 => k0_hw8.1 k0_h1
theorem k0_off24_inb : ∀ (i : grid0.Coords) (v94 : BitVec 32) (k0_hw8 : k0_chk8 i v94), ∀ (k0_h1 : k0_cond1 i = 1#1), ∀ a, (k0_off24 v94) a + S1x256.size a ≤ S32768x256.size a := fun i v94 k0_hw8 k0_h1 => k0_hw8.2 k0_h1

def k0_off25 (v105 : BitVec 32) : Fin 2 → Nat :=
  let c1_i32_55 : BitVec 32 := 1#32
  let v106 : BitVec 32 := Scalar.subi v105 c1_i32_55
  let c0_i32_56 : BitVec 32 := 0#32
  let v107 : BitVec 32 := Scalar.maxsi v106 c0_i32_56
  let c0_i32_128 : BitVec 32 := 0#32
  ![v107.toNat, 0]

def k0_chk9 (i : grid0.Coords) (v105 : BitVec 32) : Prop :=
  (∀ (k0_h1 : k0_cond1 i = 1#1), ∀ a, (k0_off9 v105) a + S1x256.size a ≤ S32768x256.size a) ∧
  (∀ (k0_h1 : k0_cond1 i = 1#1), ∀ a, (k0_off25 v105) a + S1x256.size a ≤ S32768x256.size a)
theorem k0_off9_inb : ∀ (i : grid0.Coords) (v105 : BitVec 32) (k0_hw9 : k0_chk9 i v105), ∀ (k0_h1 : k0_cond1 i = 1#1), ∀ a, (k0_off9 v105) a + S1x256.size a ≤ S32768x256.size a := fun i v105 k0_hw9 k0_h1 => k0_hw9.1 k0_h1
theorem k0_off25_inb : ∀ (i : grid0.Coords) (v105 : BitVec 32) (k0_hw9 : k0_chk9 i v105), ∀ (k0_h1 : k0_cond1 i = 1#1), ∀ a, (k0_off25 v105) a + S1x256.size a ≤ S32768x256.size a := fun i v105 k0_hw9 k0_h1 => k0_hw9.2 k0_h1

def k0_off26 (v116 : BitVec 32) : Fin 2 → Nat :=
  let c1_i32_61 : BitVec 32 := 1#32
  let v117 : BitVec 32 := Scalar.subi v116 c1_i32_61
  let c0_i32_62 : BitVec 32 := 0#32
  let v118 : BitVec 32 := Scalar.maxsi v117 c0_i32_62
  let c0_i32_131 : BitVec 32 := 0#32
  ![v118.toNat, 0]

def k0_chk10 (i : grid0.Coords) (v116 : BitVec 32) : Prop :=
  (∀ (k0_h1 : k0_cond1 i = 1#1), ∀ a, (k0_off10 v116) a + S1x256.size a ≤ S32768x256.size a) ∧
  (∀ (k0_h1 : k0_cond1 i = 1#1), ∀ a, (k0_off26 v116) a + S1x256.size a ≤ S32768x256.size a)
theorem k0_off10_inb : ∀ (i : grid0.Coords) (v116 : BitVec 32) (k0_hw10 : k0_chk10 i v116), ∀ (k0_h1 : k0_cond1 i = 1#1), ∀ a, (k0_off10 v116) a + S1x256.size a ≤ S32768x256.size a := fun i v116 k0_hw10 k0_h1 => k0_hw10.1 k0_h1
theorem k0_off26_inb : ∀ (i : grid0.Coords) (v116 : BitVec 32) (k0_hw10 : k0_chk10 i v116), ∀ (k0_h1 : k0_cond1 i = 1#1), ∀ a, (k0_off26 v116) a + S1x256.size a ≤ S32768x256.size a := fun i v116 k0_hw10 k0_h1 => k0_hw10.2 k0_h1

def k0_off27 (v127 : BitVec 32) : Fin 2 → Nat :=
  let c1_i32_67 : BitVec 32 := 1#32
  let v128 : BitVec 32 := Scalar.subi v127 c1_i32_67
  let c0_i32_68 : BitVec 32 := 0#32
  let v129 : BitVec 32 := Scalar.maxsi v128 c0_i32_68
  let c0_i32_134 : BitVec 32 := 0#32
  ![v129.toNat, 0]

def k0_chk11 (i : grid0.Coords) (v127 : BitVec 32) : Prop :=
  (∀ (k0_h1 : k0_cond1 i = 1#1), ∀ a, (k0_off11 v127) a + S1x256.size a ≤ S32768x256.size a) ∧
  (∀ (k0_h1 : k0_cond1 i = 1#1), ∀ a, (k0_off27 v127) a + S1x256.size a ≤ S32768x256.size a)
theorem k0_off11_inb : ∀ (i : grid0.Coords) (v127 : BitVec 32) (k0_hw11 : k0_chk11 i v127), ∀ (k0_h1 : k0_cond1 i = 1#1), ∀ a, (k0_off11 v127) a + S1x256.size a ≤ S32768x256.size a := fun i v127 k0_hw11 k0_h1 => k0_hw11.1 k0_h1
theorem k0_off27_inb : ∀ (i : grid0.Coords) (v127 : BitVec 32) (k0_hw11 : k0_chk11 i v127), ∀ (k0_h1 : k0_cond1 i = 1#1), ∀ a, (k0_off27 v127) a + S1x256.size a ≤ S32768x256.size a := fun i v127 k0_hw11 k0_h1 => k0_hw11.2 k0_h1

def k0_off28 (v138 : BitVec 32) : Fin 2 → Nat :=
  let c1_i32_73 : BitVec 32 := 1#32
  let v139 : BitVec 32 := Scalar.subi v138 c1_i32_73
  let c0_i32_74 : BitVec 32 := 0#32
  let v140 : BitVec 32 := Scalar.maxsi v139 c0_i32_74
  let c0_i32_137 : BitVec 32 := 0#32
  ![v140.toNat, 0]

def k0_chk12 (i : grid0.Coords) (v138 : BitVec 32) : Prop :=
  (∀ (k0_h1 : k0_cond1 i = 1#1), ∀ a, (k0_off12 v138) a + S1x256.size a ≤ S32768x256.size a) ∧
  (∀ (k0_h1 : k0_cond1 i = 1#1), ∀ a, (k0_off28 v138) a + S1x256.size a ≤ S32768x256.size a)
theorem k0_off12_inb : ∀ (i : grid0.Coords) (v138 : BitVec 32) (k0_hw12 : k0_chk12 i v138), ∀ (k0_h1 : k0_cond1 i = 1#1), ∀ a, (k0_off12 v138) a + S1x256.size a ≤ S32768x256.size a := fun i v138 k0_hw12 k0_h1 => k0_hw12.1 k0_h1
theorem k0_off28_inb : ∀ (i : grid0.Coords) (v138 : BitVec 32) (k0_hw12 : k0_chk12 i v138), ∀ (k0_h1 : k0_cond1 i = 1#1), ∀ a, (k0_off28 v138) a + S1x256.size a ≤ S32768x256.size a := fun i v138 k0_hw12 k0_h1 => k0_hw12.2 k0_h1

def k0_off29 (v149 : BitVec 32) : Fin 2 → Nat :=
  let c1_i32_79 : BitVec 32 := 1#32
  let v150 : BitVec 32 := Scalar.subi v149 c1_i32_79
  let c0_i32_80 : BitVec 32 := 0#32
  let v151 : BitVec 32 := Scalar.maxsi v150 c0_i32_80
  let c0_i32_140 : BitVec 32 := 0#32
  ![v151.toNat, 0]

def k0_chk13 (i : grid0.Coords) (v149 : BitVec 32) : Prop :=
  (∀ (k0_h1 : k0_cond1 i = 1#1), ∀ a, (k0_off13 v149) a + S1x256.size a ≤ S32768x256.size a) ∧
  (∀ (k0_h1 : k0_cond1 i = 1#1), ∀ a, (k0_off29 v149) a + S1x256.size a ≤ S32768x256.size a)
theorem k0_off13_inb : ∀ (i : grid0.Coords) (v149 : BitVec 32) (k0_hw13 : k0_chk13 i v149), ∀ (k0_h1 : k0_cond1 i = 1#1), ∀ a, (k0_off13 v149) a + S1x256.size a ≤ S32768x256.size a := fun i v149 k0_hw13 k0_h1 => k0_hw13.1 k0_h1
theorem k0_off29_inb : ∀ (i : grid0.Coords) (v149 : BitVec 32) (k0_hw13 : k0_chk13 i v149), ∀ (k0_h1 : k0_cond1 i = 1#1), ∀ a, (k0_off29 v149) a + S1x256.size a ≤ S32768x256.size a := fun i v149 k0_hw13 k0_h1 => k0_hw13.2 k0_h1

def k0_off30 (v160 : BitVec 32) : Fin 2 → Nat :=
  let c1_i32_85 : BitVec 32 := 1#32
  let v161 : BitVec 32 := Scalar.subi v160 c1_i32_85
  let c0_i32_86 : BitVec 32 := 0#32
  let v162 : BitVec 32 := Scalar.maxsi v161 c0_i32_86
  let c0_i32_143 : BitVec 32 := 0#32
  ![v162.toNat, 0]

def k0_chk14 (i : grid0.Coords) (v160 : BitVec 32) : Prop :=
  (∀ (k0_h1 : k0_cond1 i = 1#1), ∀ a, (k0_off14 v160) a + S1x256.size a ≤ S32768x256.size a) ∧
  (∀ (k0_h1 : k0_cond1 i = 1#1), ∀ a, (k0_off30 v160) a + S1x256.size a ≤ S32768x256.size a)
theorem k0_off14_inb : ∀ (i : grid0.Coords) (v160 : BitVec 32) (k0_hw14 : k0_chk14 i v160), ∀ (k0_h1 : k0_cond1 i = 1#1), ∀ a, (k0_off14 v160) a + S1x256.size a ≤ S32768x256.size a := fun i v160 k0_hw14 k0_h1 => k0_hw14.1 k0_h1
theorem k0_off30_inb : ∀ (i : grid0.Coords) (v160 : BitVec 32) (k0_hw14 : k0_chk14 i v160), ∀ (k0_h1 : k0_cond1 i = 1#1), ∀ a, (k0_off30 v160) a + S1x256.size a ≤ S32768x256.size a := fun i v160 k0_hw14 k0_h1 => k0_hw14.2 k0_h1

def k0_off31 (v171 : BitVec 32) : Fin 2 → Nat :=
  let c1_i32_91 : BitVec 32 := 1#32
  let v172 : BitVec 32 := Scalar.subi v171 c1_i32_91
  let c0_i32_92 : BitVec 32 := 0#32
  let v173 : BitVec 32 := Scalar.maxsi v172 c0_i32_92
  let c0_i32_146 : BitVec 32 := 0#32
  ![v173.toNat, 0]

def k0_chk15 (i : grid0.Coords) (v171 : BitVec 32) : Prop :=
  (∀ (k0_h1 : k0_cond1 i = 1#1), ∀ a, (k0_off15 v171) a + S1x256.size a ≤ S32768x256.size a) ∧
  (∀ (k0_h1 : k0_cond1 i = 1#1), ∀ a, (k0_off31 v171) a + S1x256.size a ≤ S32768x256.size a)
theorem k0_off15_inb : ∀ (i : grid0.Coords) (v171 : BitVec 32) (k0_hw15 : k0_chk15 i v171), ∀ (k0_h1 : k0_cond1 i = 1#1), ∀ a, (k0_off15 v171) a + S1x256.size a ≤ S32768x256.size a := fun i v171 k0_hw15 k0_h1 => k0_hw15.1 k0_h1
theorem k0_off31_inb : ∀ (i : grid0.Coords) (v171 : BitVec 32) (k0_hw15 : k0_chk15 i v171), ∀ (k0_h1 : k0_cond1 i = 1#1), ∀ a, (k0_off31 v171) a + S1x256.size a ≤ S32768x256.size a := fun i v171 k0_hw15 k0_h1 => k0_hw15.2 k0_h1

def k0_cond5 (i : grid0.Coords) : BitVec 1 :=
  let arg0 : BitVec 32 := BitVec.ofNat 32 (i 0).val
  let c8_i32_2 : BitVec 32 := 8#32
  let v6 : BitVec 1 := Scalar.cmpi .sge arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10240x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x10240 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S32768x256 : Shape := ⟨2, ![32768, 256]⟩
abbrev S32768 : Shape := ⟨1, ![32768]⟩
abbrev S100000x256 : Shape := ⟨2, ![100000, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x512 : Shape := ⟨2, ![256, 512]⟩
abbrev S_ : Shape := ⟨0, ![]⟩
abbrev S16 : Shape := ⟨1, ![16]⟩
abbrev S32768x1 : Shape := ⟨2, ![32768, 1]⟩
abbrev S16x1 : Shape := ⟨2, ![16, 1]⟩
abbrev S1x1 : Shape := ⟨2, ![1, 1]⟩
abbrev S16x256 : Shape := ⟨2, ![16, 256]⟩
abbrev S256x1 : Shape := ⟨2, ![256, 1]⟩
abbrev S16x512 : Shape := ⟨2, ![16, 512]⟩
abbrev S512x256 : Shape := ⟨2, ![512, 256]⟩
abbrev S256x100000 : Shape := ⟨2, ![256, 100000]⟩
abbrev S16x100000 : Shape := ⟨2, ![16, 100000]⟩

abbrev nBuf : Space → Nat
  | .hbm => 118
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768, .i32⟩
  | .hbm, ⟨2, _⟩ => ⟨S100000x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1, .f32⟩
  | .hbm, ⟨9, _⟩ => ⟨S256x512, .f32⟩
  | .hbm, ⟨10, _⟩ => ⟨S256, .f32⟩
  | .hbm, ⟨11, _⟩ => ⟨S_, .i32⟩
  | .hbm, ⟨12, _⟩ => ⟨S16, .i32⟩
  | .hbm, ⟨13, _⟩ => ⟨S_, .i32⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S_, .i32⟩
  | .hbm, ⟨18, _⟩ => ⟨S32768, .i32⟩
  | .hbm, ⟨19, _⟩ => ⟨S32768, .i1⟩
  | .hbm, ⟨20, _⟩ => ⟨S_, .i32⟩
  | .hbm, ⟨21, _⟩ => ⟨S32768, .i32⟩
  | .hbm, ⟨22, _⟩ => ⟨S32768, .i32⟩
  | .hbm, ⟨23, _⟩ => ⟨S32768, .i32⟩
  | .hbm, ⟨24, _⟩ => ⟨S32768x1, .i32⟩
  | .hbm, ⟨25, _⟩ => ⟨S_, .i32⟩
  | .hbm, ⟨26, _⟩ => ⟨S32768, .i32⟩
  | .hbm, ⟨27, _⟩ => ⟨S16, .i32⟩
  | .hbm, ⟨28, _⟩ => ⟨S_, .i32⟩
  | .hbm, ⟨29, _⟩ => ⟨S_, .i32⟩
  | .hbm, ⟨30, _⟩ => ⟨S16, .i32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i1⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S16x1, .i32⟩
  | .hbm, ⟨42, _⟩ => ⟨S1, .i32⟩
  | .hbm, ⟨43, _⟩ => ⟨S_, .i32⟩
  | .hbm, ⟨44, _⟩ => ⟨S16x1, .i32⟩
  | .hbm, ⟨45, _⟩ => ⟨S16x1, .i1⟩
  | .hbm, ⟨46, _⟩ => ⟨S1x1, .i32⟩
  | .hbm, ⟨47, _⟩ => ⟨S16x1, .i32⟩
  | .hbm, ⟨48, _⟩ => ⟨S16x1, .i1⟩
  | .hbm, ⟨49, _⟩ => ⟨S16x1, .i1⟩
  | .hbm, ⟨50, _⟩ => ⟨S_, .i1⟩
  | .hbm, ⟨51, _⟩ => ⟨S16, .i1⟩
  | .hbm, ⟨52, _⟩ => ⟨S16x256, .f32⟩
  | .hbm, ⟨53, _⟩ => ⟨S16x256, .i1⟩
  | .hbm, ⟨54, _⟩ => ⟨S_, .f32⟩
  | .hbm, ⟨55, _⟩ => ⟨S16x256, .f32⟩
  | .hbm, ⟨56, _⟩ => ⟨S16x256, .f32⟩
  | .hbm, ⟨57, _⟩ => ⟨S_, .i32⟩
  | .hbm, ⟨58, _⟩ => ⟨S32768, .i32⟩
  | .hbm, ⟨59, _⟩ => ⟨S32768, .i1⟩
  | .hbm, ⟨60, _⟩ => ⟨S_, .i32⟩
  | .hbm, ⟨61, _⟩ => ⟨S32768, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S1, .i32⟩
  | .hbm, ⟨66, _⟩ => ⟨S_, .i32⟩
  | .hbm, ⟨67, _⟩ => ⟨S32768x1, .i32⟩
  | .hbm, ⟨68, _⟩ => ⟨S32768x1, .i1⟩
  | .hbm, ⟨69, _⟩ => ⟨S1x1, .i32⟩
  | .hbm, ⟨70, _⟩ => ⟨S32768x1, .i32⟩
  | .hbm, ⟨71, _⟩ => ⟨S32768x1, .i1⟩
  | .hbm, ⟨72, _⟩ => ⟨S32768x1, .i1⟩
  | .hbm, ⟨73, _⟩ => ⟨S_, .i1⟩
  | .hbm, ⟨74, _⟩ => ⟨S32768, .i1⟩
  | .hbm, ⟨75, _⟩ => ⟨S32768x256, .f32⟩
  | .hbm, ⟨76, _⟩ => ⟨S32768x256, .i1⟩
  | .hbm, ⟨77, _⟩ => ⟨S_, .f32⟩
  | .hbm, ⟨78, _⟩ => ⟨S32768x256, .f32⟩
  | .hbm, ⟨79, _⟩ => ⟨S32768x256, .f32⟩
  | .hbm, ⟨80, _⟩ => ⟨S256x256, .f32⟩
  | .hbm, ⟨81, _⟩ => ⟨S32768x256, .f32⟩
  | .hbm, ⟨82, _⟩ => ⟨S1x256, .f32⟩
  | .hbm, ⟨83, _⟩ => ⟨S32768x256, .f32⟩
  | .hbm, ⟨84, _⟩ => ⟨S32768x256, .f32⟩
  | .hbm, ⟨85, _⟩ => ⟨S256x256, .f32⟩
  | .hbm, ⟨86, _⟩ => ⟨S32768x256, .f32⟩
  | .hbm, ⟨87, _⟩ => ⟨S32768x256, .f32⟩
  | .hbm, ⟨88, _⟩ => ⟨S1x256, .f32⟩
  | .hbm, ⟨89, _⟩ => ⟨S32768x256, .f32⟩
  | .hbm, ⟨90, _⟩ => ⟨S32768x256, .f32⟩
  | .hbm, ⟨91, _⟩ => ⟨S32768x256, .f32⟩
  | .hbm, ⟨92, _⟩ => ⟨S32768x256, .f32⟩
  | .hbm, ⟨93, _⟩ => ⟨S_, .f32⟩
  | .hbm, ⟨94, _⟩ => ⟨S32768x256, .f32⟩
  | .hbm, ⟨95, _⟩ => ⟨S32768x256, .f32⟩
  | .hbm, ⟨96, _⟩ => ⟨S_, .f32⟩
  | .hbm, ⟨97, _⟩ => ⟨S32768x256, .f32⟩
  | .hbm, ⟨98, _⟩ => ⟨S32768x256, .f32⟩
  | .hbm, ⟨99, _⟩ => ⟨S256x1, .f32⟩
  | .hbm, ⟨100, _⟩ => ⟨S32768x1, .f32⟩
  | .hbm, ⟨101, _⟩ => ⟨S1x1, .f32⟩
  | .hbm, ⟨102, _⟩ => ⟨S32768x1, .f32⟩
  | .hbm, ⟨103, _⟩ => ⟨S32768x1, .f32⟩
  | .hbm, ⟨104, _⟩ => ⟨S32768x256, .f32⟩
  | .hbm, ⟨105, _⟩ => ⟨S32768x256, .f32⟩
  | .hbm, ⟨106, _⟩ => ⟨S_, .f32⟩
  | .hbm, ⟨107, _⟩ => ⟨S16x256, .f32⟩
  | .hbm, ⟨108, _⟩ => ⟨S32768x1, .i32⟩
  | .hbm, ⟨109, _⟩ => ⟨S16x256, .f32⟩
  | .hbm, ⟨110, _⟩ => ⟨S16x512, .f32⟩
  | .hbm, ⟨111, _⟩ => ⟨S512x256, .f32⟩
  | .hbm, ⟨112, _⟩ => ⟨S16x256, .f32⟩
  | .hbm, ⟨113, _⟩ => ⟨S1x256, .f32⟩
  | .hbm, ⟨114, _⟩ => ⟨S16x256, .f32⟩
  | .hbm, ⟨115, _⟩ => ⟨S16x256, .f32⟩
  | .hbm, ⟨116, _⟩ => ⟨S256x100000, .f32⟩
  | .hbm, ⟨117, _⟩ => ⟨S16x100000, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v1 : Ref sig .tc := ⟨.hbm, 16, rfl⟩
abbrev main_c_1 : Ref sig .tc := ⟨.hbm, 17, rfl⟩
abbrev main_v2 : Ref sig .tc := ⟨.hbm, 18, rfl⟩
abbrev main_v3 : Ref sig .tc := ⟨.hbm, 19, rfl⟩
abbrev main_c_2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_3 : Ref sig .tc := ⟨.hbm, 25, rfl⟩
abbrev main_v8 : Ref sig .tc := ⟨.hbm, 26, rfl⟩
abbrev main_v9 : Ref sig .tc := ⟨.hbm, 27, rfl⟩
abbrev main_call1_call0_c : Ref sig .tc := ⟨.hbm, 28, rfl⟩
abbrev main_call1_call0_v0 : Ref sig .tc := ⟨.hbm, 29, rfl⟩
abbrev main_v10 : Ref sig .tc := ⟨.hbm, 30, rfl⟩
abbrev main_c_4 : Ref sig .tc := ⟨.hbm, 31, rfl⟩
abbrev main_v11 : Ref sig .tc := ⟨.hbm, 32, rfl⟩
abbrev main_v12 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_v14 : Ref sig .tc := ⟨.hbm, 53, rfl⟩
abbrev main_call2_cst : Ref sig .tc := ⟨.hbm, 54, rfl⟩
abbrev main_call2_v15 : Ref sig .tc := ⟨.hbm, 55, rfl⟩
abbrev main_v13 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_v14 : Ref sig .tc := ⟨.hbm, 76, rfl⟩
abbrev main_call3_cst : Ref sig .tc := ⟨.hbm, 77, rfl⟩
abbrev main_call3_v15 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_cst : Ref sig .tc := ⟨.hbm, 93, rfl⟩
abbrev main_v28 : Ref sig .tc := ⟨.hbm, 94, rfl⟩
abbrev main_v29 : Ref sig .tc := ⟨.hbm, 95, rfl⟩
abbrev main_cst_5 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_v38 : Ref sig .tc := ⟨.hbm, 105, rfl⟩
abbrev main_cst_6 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩

abbrev nD : Nat := 1
abbrev τ : Topo := Topo.v7x

variable {F : FTy → Type} [FloatOps F]
-- ==== Proof.Ends.lean ====
module

public import proofs.«01_k».proof.Proof.Run

/-!
The frame: no run changes an argument array, and every counter ends at zero.
-/

@[expose] public section

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat RDat)

variable {F : FTy → Type} [FloatOps F]
variable (m : (ℓ : Loc nD τ sig) → Buf (Elt F) ℓ) (ρ : Dev nD → PrngReg)

/-- An input window's array ends as the host operations left it; if that is what the memory held, so it ends. -/
theorem kept (c : Dev nD) (s : MemSt nD τ sig (Elt F)) (h : EndAt m c s) (w : Fin cfg0.W) (hin : (cfg0.win w).isOut = false)
    {X} (e : V m c (Pipeline.arrRef spec0 w) = X) : s.mem ((cfg0.win w).arr.view.loc (c : Thread nD τ)) = X := by
  have h1 := h.1 w
  rw [RDat.ArrAt_in _ w hin] at h1
  exact h1.trans e

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => ⟨kept m c _ (h.1 c) 3 rfl (V_main_arg0 m c),
      ((h.1 c).2 main_arg1 (Pipeline.mem_restRefs_of main_arg1 (by decide) (by decide))).trans (V_main_arg1 m c),
      kept m c _ (h.1 c) 10 rfl (V_main_arg2 m c),
      kept m c _ (h.1 c) 4 rfl (V_main_arg3 m c),
      ((h.1 c).2 main_arg4 (Pipeline.mem_restRefs_of main_arg4 (by decide) (by decide))).trans (V_main_arg4 m c),
      kept m c _ (h.1 c) 5 rfl (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      kept m c _ (h.1 c) 0 rfl (V_main_arg8 m c),
      kept m c _ (h.1 c) 8 rfl (V_main_arg9 m c),
      ((h.1 c).2 main_arg10 (Pipeline.mem_restRefs_of main_arg10 (by decide) (by decide))).trans (V_main_arg10 m c)⟩, h.2⟩) (run_main m ρ)

end Cert.Kernel.Hand

end
-- ==== Proof.IdealCount.lean ====
/-
  The row numbers the kernel gathers. The body counts, for each session s, the tokens whose session number is at most
  s, and copies the row of the item embeddings at (that count - 1), clamped below at zero. Here: the count as a
  cardinality, hence at most 32768, so every row number lies inside the array, whatever the session numbers are.
-/
module

public import proofs.«01_k».proof.Proof.Gen.KernelIdeal.Skeleton
public import Idealize.ShloMosaic.Lib.IndicatorCount
public import Idealize.ShloMosaic.PureOps.Reduce

@[expose] public section

set_option maxRecDepth 16384

noncomputable section

namespace Cert.KernelIdeal.Hand

open Cert.KernelIdeal Cert.KernelIdeal.Gen
open Idealize.ShloMosaic

variable {F : FTy → Type} [FloatOps F]

/-- The word the body computes for session `s`: how many of the session numbers `X` are at most `s`. -/
def cntW (X : IVec S256x128 32) (s : BitVec 32) : BitVec 32 :=
  extractAt ![0, 0, 0] (shapeCast S1x1x1 (multiReductionI .add [1, 2] S1
    (shapeCast S1x256x128 (extui 32 (cmpi .sle X (broadcast S256x128 s)) natLt_1_32) shapeCasts_S256x128_S1x256x128)
    0#32 reduces_S1x256x128_S1 rfl) shapeCasts_S1_S1x1x1) inpos_S1x1x1_p0_0_0

/-- The number of tokens whose session number is at most `s`. -/
def cntN (X : IVec S256x128 32) (s : BitVec 32) : ℕ := (Finset.univ.filter fun k : S256x128.Idx => (X k).sle s = true).card

instance : Subsingleton S1.Idx := ⟨fun a b => funext fun i => Fin.ext (by
  have h1 : S1.size i = 1 := by revert i; decide
  have := (a i).isLt; have := (b i).isLt; omega)⟩

theorem cntW_eq (X : IVec S256x128 32) (s : BitVec 32) : cntW X s = BitVec.ofNat 32 (cntN X s) := by
  have h0 := multiReductionI_eq_fold .add
    (shapeCast S1x256x128 (extui 32 (cmpi .sle X (broadcast S256x128 s)) natLt_1_32) shapeCasts_S256x128_S1x256x128)
    0#32 reduces_S1x256x128_S1 (show 0#32 = IKind.add.neutral from rfl)
    (Shape.reshapeEquiv shapeCasts_S1_S1x1x1 (fun a => ⟨![0, 0, 0] a, inpos_S1x1x1_p0_0_0 a⟩))
  have h1 : cntW X s = _ := h0
  rw [h1, Finset.filter_true_of_mem (fun _ _ => Subsingleton.elim _ _)]
  have h2 := IndicatorCount.fold_addi_setWidth_eq_card (w := 32)
    (fun k : S1x256x128.Idx => (cmpi .sle X (broadcast S256x128 s)) (Shape.reshapeEquiv shapeCasts_S256x128_S1x256x128 k)) Finset.univ
  refine Eq.trans ?_ (h2.trans ?_)
  · rfl
  refine congrArg (BitVec.ofNat 32) ?_
  unfold cntN
  refine Finset.card_bij (fun k _ => Shape.reshapeEquiv shapeCasts_S256x128_S1x256x128 k) ?_ ?_ ?_
  · intro k hk
    rw [Finset.mem_filter] at hk ⊢
    refine ⟨Finset.mem_univ _, ?_⟩
    have h := hk.2
    change BitVec.ofBool _ = 1#1 at h
    revert h
    change BitVec.ofBool ((X _).sle s) = 1#1 → _
    cases (X (Shape.reshapeEquiv shapeCasts_S256x128_S1x256x128 k)).sle s <;> simp
  · intro a _ b _ h
    exact (Shape.reshapeEquiv shapeCasts_S256x128_S1x256x128).injective h
  · intro b hb
    refine ⟨(Shape.reshapeEquiv shapeCasts_S256x128_S1x256x128).symm b, ?_, Equiv.apply_symm_apply _ _⟩
    rw [Finset.mem_filter] at hb ⊢
    refine ⟨Finset.mem_univ _, ?_⟩
    change BitVec.ofBool ((X _).sle s) = 1#1
    rw [Equiv.apply_symm_apply, hb.2]; rfl

theorem cntN_le (X : IVec S256x128 32) (s : BitVec 32) : cntN X s ≤ 32768 := by
  refine (Finset.card_le_univ _).trans (le_of_eq ?_)
  rw [Shape.card_idx]
  decide

/-- The row number: the count less one, as a signed word clamped below at zero. -/
def rowW (w : BitVec 32) : ℕ := (Scalar.maxsi (Scalar.subi w 1#32) 0#32).toNat

theorem rowW_ofNat (n : ℕ) (hn : n ≤ 32768) : rowW (BitVec.ofNat 32 n) = n - 1 := by
  unfold rowW
  change (if (0#32).slt (BitVec.ofNat 32 n - 1#32) then (BitVec.ofNat 32 n - 1#32) else 0#32).toNat = n - 1
  rcases Nat.eq_zero_or_pos n with rfl | hp
  · decide
  · have e : BitVec.ofNat 32 n - 1#32 = BitVec.ofNat 32 (n - 1) := by
      apply BitVec.eq_of_toNat_eq
      simp only [BitVec.toNat_sub, BitVec.toNat_ofNat]
      omega
    rw [e]
    have ht : (BitVec.ofNat 32 (n - 1)).toNat = n - 1 := by simp only [BitVec.toNat_ofNat]; omega
    split
    · exact ht
    · rename_i h
      have hti : (BitVec.ofNat 32 (n - 1)).toInt = ((n - 1 : ℕ) : ℤ) := by
        rw [BitVec.toInt_eq_toNat_of_lt (by omega), ht]
      rw [BitVec.slt_iff_toInt_lt, hti, show (0#32 : BitVec 32).toInt = 0 from rfl] at h
      show 0 = n - 1
      omega

/-- The row gathered for session `s`. -/
def rowN (X : IVec S256x128 32) (s : BitVec 32) : ℕ := cntN X s - 1

theorem rowW_cntW (X : IVec S256x128 32) (s : BitVec 32) : rowW (cntW X s) = rowN X s := by
  rw [cntW_eq, rowW_ofNat _ (cntN_le X s)]; rfl

theorem rowN_lt (X : IVec S256x128 32) (s : BitVec 32) : rowN X s < 32768 := by
  have := cntN_le X s; unfold rowN; omega

theorem inb_row (w : BitVec 32) (h : rowW w < 32768) : ∀ a, (![rowW w, 0] : Fin 2 → ℕ) a + S1x256.size a ≤ S32768x256.size a := by
  intro a
  fin_cases a
  · show rowW w + 1 ≤ 32768; omega
  · show 0 + 256 ≤ 256; omega

theorem inb_cnt (X : IVec S256x128 32) (s : BitVec 32) :
    ∀ a, (![rowW (cntW X s), 0] : Fin 2 → ℕ) a + S1x256.size a ≤ S32768x256.size a :=
  inb_row _ (by rw [rowW_cntW]; exact rowN_lt X s)

/-- The word of session 0 is its count. -/
theorem word0 (X : Vec F S256x128 .i32) : extractAt ![0, 0, 0] (k0_pay6 (F := F) X) inpos_S1x1x1_p0_0_0 = cntW (k0_pay5 (F := F) X) (BitVec.ofNat 32 0) := rfl

/-- The word of session 1 is its count. -/
theorem word1 (X : Vec F S256x128 .i32) : extractAt ![0, 0, 0] (k0_pay7 (F := F) X) inpos_S1x1x1_p0_0_0 = cntW (k0_pay5 (F := F) X) (BitVec.ofNat 32 1) := rfl

/-- The word of session 2 is its count. -/
theorem word2 (X : Vec F S256x128 .i32) : extractAt ![0, 0, 0] (k0_pay8 (F := F) X) inpos_S1x1x1_p0_0_0 = cntW (k0_pay5 (F := F) X) (BitVec.ofNat 32 2) := rfl

/-- The word of session 3 is its count. -/
theorem word3 (X : IVec S256x128 32) : extractAt ![0, 0, 0] (k0_pay9 X) inpos_S1x1x1_p0_0_0 = cntW X (BitVec.ofNat 32 3) := rfl

/-- The word of session 4 is its count. -/
theorem word4 (X : IVec S256x128 32) : extractAt ![0, 0, 0] (k0_pay10 X) inpos_S1x1x1_p0_0_0 = cntW X (BitVec.ofNat 32 4) := rfl

/-- The word of session 5 is its count. -/
theorem word5 (X : IVec S256x128 32) : extractAt ![0, 0, 0] (k0_pay11 X) inpos_S1x1x1_p0_0_0 = cntW X (BitVec.ofNat 32 5) := rfl

/-- The word of session 6 is its count. -/
theorem word6 (X : IVec S256x128 32) : extractAt ![0, 0, 0] (k0_pay12 X) inpos_S1x1x1_p0_0_0 = cntW X (BitVec.ofNat 32 6) := rfl

/-- The word of session 7 is its count. -/
theorem word7 (X : IVec S256x128 32) : extractAt ![0, 0, 0] (k0_pay13 X) inpos_S1x1x1_p0_0_0 = cntW X (BitVec.ofNat 32 7) := rfl

/-- The word of session 8 is its count. -/
theorem word8 (X : IVec S256x128 32) : extractAt ![0, 0, 0] (k0_pay14 X) inpos_S1x1x1_p0_0_0 = cntW X (BitVec.ofNat 32 8) := rfl

/-- The word of session 9 is its count. -/
theorem word9 (X : IVec S256x128 32) : extractAt ![0, 0, 0] (k0_pay15 X) inpos_S1x1x1_p0_0_0 = cntW X (BitVec.ofNat 32 9) := rfl

/-- The word of session 10 is its count. -/
theorem word10 (X : IVec S256x128 32) : extractAt ![0, 0, 0] (k0_pay16 X) inpos_S1x1x1_p0_0_0 = cntW X (BitVec.ofNat 32 10) := rfl

/-- The word of session 11 is its count. -/
theorem word11 (X : IVec S256x128 32) : extractAt ![0, 0, 0] (k0_pay17 X) inpos_S1x1x1_p0_0_0 = cntW X (BitVec.ofNat 32 11) := rfl

/-- The word of session 12 is its count. -/
theorem word12 (X : IVec S256x128 32) : extractAt ![0, 0, 0] (k0_pay18 X) inpos_S1x1x1_p0_0_0 = cntW X (BitVec.ofNat 32 12) := rfl

/-- The word of session 13 is its count. -/
theorem word13 (X : IVec S256x128 32) : extractAt ![0, 0, 0] (k0_pay19 X) inpos_S1x1x1_p0_0_0 = cntW X (BitVec.ofNat 32 13) := rfl

/-- The word of session 14 is its count. -/
theorem word14 (X : IVec S256x128 32) : extractAt ![0, 0, 0] (k0_pay20 X) inpos_S1x1x1_p0_0_0 = cntW X (BitVec.ofNat 32 14) := rfl

/-- The word of session 15 is its count. -/
theorem word15 (X : IVec S256x128 32) : extractAt ![0, 0, 0] (k0_pay21 X) inpos_S1x1x1_p0_0_0 = cntW X (BitVec.ofNat 32 15) := rfl

/-- Session 0's row number is inside the array. -/
theorem chk1 (i : grid0.Coords) (X : Vec F S256x128 .i32) :
    k0_chk1 i (extractAt ![0, 0, 0] (k0_pay6 (F := F) X) inpos_S1x1x1_p0_0_0) :=
  ⟨fun _ => inb_cnt (k0_pay5 (F := F) X) _, fun _ => inb_cnt (k0_pay5 (F := F) X) _⟩

/-- Session 1's row number is inside the array. -/
theorem chk2 (i : grid0.Coords) (X : Vec F S256x128 .i32) :
    k0_chk2 i (extractAt ![0, 0, 0] (k0_pay7 (F := F) X) inpos_S1x1x1_p0_0_0) :=
  ⟨fun _ => inb_cnt (k0_pay5 (F := F) X) _, fun _ => inb_cnt (k0_pay5 (F := F) X) _⟩

/-- Session 2's row number is inside the array. -/
theorem chk3 (i : grid0.Coords) (X : Vec F S256x128 .i32) :
    k0_chk3 i (extractAt ![0, 0, 0] (k0_pay8 (F := F) X) inpos_S1x1x1_p0_0_0) :=
  ⟨fun _ => inb_cnt (k0_pay5 (F := F) X) _, fun _ => inb_cnt (k0_pay5 (F := F) X) _⟩

/-- Session 3's row number is inside the array. -/
theorem chk4 (i : grid0.Coords) (X : Vec F S256x128 .i32) :
    k0_chk4 i (extractAt ![0, 0, 0] (k0_pay9 (k0_pay5 (F := F) X)) inpos_S1x1x1_p0_0_0) :=
  ⟨fun _ => inb_cnt (k0_pay5 (F := F) X) _, fun _ => inb_cnt (k0_pay5 (F := F) X) _⟩

/-- Session 4's row number is inside the array. -/
theorem chk5 (i : grid0.Coords) (X : Vec F S256x128 .i32) :
    k0_chk5 i (extractAt ![0, 0, 0] (k0_pay10 (k0_pay5 (F := F) X)) inpos_S1x1x1_p0_0_0) :=
  ⟨fun _ => inb_cnt (k0_pay5 (F := F) X) _, fun _ => inb_cnt (k0_pay5 (F := F) X) _⟩

/-- Session 5's row number is inside the array. -/
theorem chk6 (i : grid0.Coords) (X : Vec F S256x128 .i32) :
    k0_chk6 i (extractAt ![0, 0, 0] (k0_pay11 (k0_pay5 (F := F) X)) inpos_S1x1x1_p0_0_0) :=
  ⟨fun _ => inb_cnt (k0_pay5 (F := F) X) _, fun _ => inb_cnt (k0_pay5 (F := F) X) _⟩

/-- Session 6's row number is inside the array. -/
theorem chk7 (i : grid0.Coords) (X : Vec F S256x128 .i32) :
    k0_chk7 i (extractAt ![0, 0, 0] (k0_pay12 (k0_pay5 (F := F) X)) inpos_S1x1x1_p0_0_0) :=
  ⟨fun _ => inb_cnt (k0_pay5 (F := F) X) _, fun _ => inb_cnt (k0_pay5 (F := F) X) _⟩

/-- Session 7's row number is inside the array. -/
theorem chk8 (i : grid0.Coords) (X : Vec F S256x128 .i32) :
    k0_chk8 i (extractAt ![0, 0, 0] (k0_pay13 (k0_pay5 (F := F) X)) inpos_S1x1x1_p0_0_0) :=
  ⟨fun _ => inb_cnt (k0_pay5 (F := F) X) _, fun _ => inb_cnt (k0_pay5 (F := F) X) _⟩

/-- Session 8's row number is inside the array. -/
theorem chk9 (i : grid0.Coords) (X : Vec F S256x128 .i32) :
    k0_chk9 i (extractAt ![0, 0, 0] (k0_pay14 (k0_pay5 (F := F) X)) inpos_S1x1x1_p0_0_0) :=
  ⟨fun _ => inb_cnt (k0_pay5 (F := F) X) _, fun _ => inb_cnt (k0_pay5 (F := F) X) _⟩

/-- Session 9's row number is inside the array. -/
theorem chk10 (i : grid0.Coords) (X : Vec F S256x128 .i32) :
    k0_chk10 i (extractAt ![0, 0, 0] (k0_pay15 (k0_pay5 (F := F) X)) inpos_S1x1x1_p0_0_0) :=
  ⟨fun _ => inb_cnt (k0_pay5 (F := F) X) _, fun _ => inb_cnt (k0_pay5 (F := F) X) _⟩

/-- Session 10's row number is inside the array. -/
theorem chk11 (i : grid0.Coords) (X : Vec F S256x128 .i32) :
    k0_chk11 i (extractAt ![0, 0, 0] (k0_pay16 (k0_pay5 (F := F) X)) inpos_S1x1x1_p0_0_0) :=
  ⟨fun _ => inb_cnt (k0_pay5 (F := F) X) _, fun _ => inb_cnt (k0_pay5 (F := F) X) _⟩

/-- Session 11's row number is inside the array. -/
theorem chk12 (i : grid0.Coords) (X : Vec F S256x128 .i32) :
    k0_chk12 i (extractAt ![0, 0, 0] (k0_pay17 (k0_pay5 (F := F) X)) inpos_S1x1x1_p0_0_0) :=
  ⟨fun _ => inb_cnt (k0_pay5 (F := F) X) _, fun _ => inb_cnt (k0_pay5 (F := F) X) _⟩

/-- Session 12's row number is inside the array. -/
theorem chk13 (i : grid0.Coords) (X : Vec F S256x128 .i32) :
    k0_chk13 i (extractAt ![0, 0, 0] (k0_pay18 (k0_pay5 (F := F) X)) inpos_S1x1x1_p0_0_0) :=
  ⟨fun _ => inb_cnt (k0_pay5 (F := F) X) _, fun _ => inb_cnt (k0_pay5 (F := F) X) _⟩

/-- Session 13's row number is inside the array. -/
theorem chk14 (i : grid0.Coords) (X : Vec F S256x128 .i32) :
    k0_chk14 i (extractAt ![0, 0, 0] (k0_pay19 (k0_pay5 (F := F) X)) inpos_S1x1x1_p0_0_0) :=
  ⟨fun _ => inb_cnt (k0_pay5 (F := F) X) _, fun _ => inb_cnt (k0_pay5 (F := F) X) _⟩

/-- Session 14's row number is inside the array. -/
theorem chk15 (i : grid0.Coords) (X : Vec F S256x128 .i32) :
    k0_chk15 i (extractAt ![0, 0, 0] (k0_pay20 (k0_pay5 (F := F) X)) inpos_S1x1x1_p0_0_0) :=
  ⟨fun _ => inb_cnt (k0_pay5 (F := F) X) _, fun _ => inb_cnt (k0_pay5 (F := F) X) _⟩

/-- Session 15's row number is inside the array. -/
theorem chk16 (i : grid0.Coords) (X : Vec F S256x128 .i32) :
    k0_chk16 i (extractAt ![0, 0, 0] (k0_pay21 (k0_pay5 (F := F) X)) inpos_S1x1x1_p0_0_0) :=
  fun _ => inb_cnt (k0_pay5 (F := F) X) _

end Cert.KernelIdeal.Hand

end
-- ==== Proof.IdealBody.lean ====
module

public import proofs.«01_k».proof.Proof.IdealCount
public import proofs.«01_k».proof.Proof.Gen.KernelIdeal.Skeleton
public import proofs.«01_k».proof.Proof.Gen.KernelIdeal.Points
public import proofs.«01_k».proof.Proof.Gen.KernelIdeal.Launch
public import Idealize.ShloMosaic.Lib.Tactic
public import Idealize.ShloMosaic.Lib.Batch
public import Idealize.ShloMosaic.Lib.Pipeline.Kit
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev Bf (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev scAcc : Memref sig .tc .vmem S16x256 .f32 := Memref.whole cc0_scratch0
abbrev scSh : Memref sig .tc .vmem S16x256 .f32 := Memref.whole cc0_scratch1
abbrev scVn : Memref sig .tc .vmem S16x256 .f32 := Memref.whole cc0_scratch2
abbrev hbSe : Memref sig .tc .hbm S32768x256 .f32 := Memref.whole main_arg0

/-- A whole memref owned at `X` is a whole buffer that reads back as `X`. -/
theorem own_open (c : Dev nD) {sp : Space} {S : Shape} {e : EltTy} (M : Memref sig .tc sp S e) (w : M.IsWhole) (X : S.Idx → Elt F e) :
    (owns (c : Thread nD τ) M fullShare X : sProp 𝕄) ⊢ iprop(∃ f : Bf (F := F) c M, ⌜M.view.read (Elt F) f = X⌝ ∗ pt c M f) := by
  rw [owns, w.set_eq_univ]

/-- A whole buffer that reads back as `X` is its memref owned at `X`. -/
theorem own_close (c : Dev nD) {sp : Space} {S : Shape} {e : EltTy} (M : Memref sig .tc sp S e) (w : M.IsWhole) (X : S.Idx → Elt F e)
    (f : Bf (F := F) c M) (h : M.view.read (Elt F) f = X) : pt c M f ⊢ (owns (c : Thread nD τ) M fullShare X : sProp 𝕄) := by
  rw [owns, w.set_eq_univ]
  iintro H
  iexists f
  isplitr
  · ipureintro; exact h
  · iexact H

/-- A load of a whole block is its read. -/
theorem rdAt {κ : Kind} {sp : Space} {S : Shape} {e : EltTy} (v : View sig κ sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  subst h
  funext x
  rw [View.readAt_apply]
  exact congrArg (v.read (Elt F) f) (Rect.emb_whole_apply S x)

/-- After a write of a whole block, the block reads as what was written, whatever was written before. -/
theorem rdW {κ : Kind} {sp : Space} {S : Shape} {e : EltTy} (v : View sig κ sp S e) {off : Fin S.rank → ℕ} (h : off = fun _ => 0)
    (inb : ∀ a, off a + S.size a ≤ S.size a) (f : v.ty.Contents (Elt F)) (x : S.Idx → Elt F e) (L : List (View.Piece (Elt F) S e)) :
    v.read (Elt F) (v.writes (Elt F) f (⟨Rect.unit off S.size inb, x⟩ :: L)) = x := by
  subst h
  funext y
  exact View.read_writes_cons_hit v f (Rect.whole S) x L y y (Rect.emb_whole_apply S y)

theorem zero2 : (![0, 0] : Fin 2 → ℕ) = fun _ => 0 := by decide
theorem zero3 : (![0, 0, 0] : Fin 3 → ℕ) = fun _ => 0 := by decide

/-- The only place of a one-element vector. -/
def q0 : S1.Idx := fun a => ⟨0, by revert a; decide⟩

/-- What one block of tokens adds to the running sum: the block's rows weighted by their attention scores and its one-hot
    session rows, added to what was there. -/
def accNext (Xq : Vec F S1 .f32) (Xb : Vec F S1x1x4096 .i32) (Xe : Vec F S4096x256 .f32) (X6 X7 : Vec F S256x256 .f32)
    (X8 : Vec F S16x256 .f32) (X9 : Vec F S1x256 .f32) (Xv Xa : Vec F S16x256 .f32) : Vec F S16x256 .f32 :=
  k0_pay2 Xe (k0_pay23 Xb) (k0_pay24 Xe Xb Xv X6 X9 X7 X8 (Xq q0)) Xa

theorem zero1 : (![0] : Fin 1 → ℕ) = fun _ => 0 := by decide

theorem idx1 (x : S1.Idx) : x = q0 := by
  funext a
  obtain rfl : a = 0 := Subsingleton.elim _ _
  exact Fin.ext (Nat.lt_one_iff.mp (x 0).isLt)

/-- The word loaded from a one-element block. -/
theorem rdWord {κ : Kind} {sp : Space} (v : View sig κ sp S1 .f32) (X : Vec F S1 .f32) (inb : ∀ a, (![0] : Fin 1 → ℕ) a + S1.size a ≤ S1.size a)
    (f : v.ty.Contents (Elt F)) (h : v.read (Elt F) f = X) (x : S1.Idx) :
    v.readAt (Elt F) (Rect.unit (s := S1) ![0] S1.size inb).toLoadRect f x = X q0 :=
  (congrFun ((rdAt v zero1 inb f).trans h) x).trans (congrArg X (idx1 x))

/-- A load of a whole block that the listed writes cover is what they leave to be read. -/
theorem rdCov {κ : Kind} {sp : Space} {S : Shape} {e : EltTy} (v : View sig κ sp S e) {off : Fin S.rank → ℕ} (h : off = fun _ => 0)
    (inb : ∀ a, off a + S.size a ≤ S.size a) (L : List (View.Piece (Elt F) S e)) (x : S.Idx → Elt F e)
    (hx : ∀ f : v.ty.Contents (Elt F), v.read (Elt F) (v.writes (Elt F) f L) = x) :
    v.readCov L (Rect.unit off S.size inb).toLoadRect = x :=
  (rdAt v h inb _).trans (hx _)

theorem acc_congr {y y' : Elt F .f32} {Xb Xb' : Vec F S1x1x4096 .i32} {Xe Xe' : Vec F S4096x256 .f32} {X6 X6' X7 X7' : Vec F S256x256 .f32}
    {X8 X8' : Vec F S16x256 .f32} {X9 X9' : Vec F S1x256 .f32} {Xv Xv' Xa Xa' : Vec F S16x256 .f32}
    (hy : y = y') (hb : Xb = Xb') (he : Xe = Xe') (h6 : X6 = X6') (h7 : X7 = X7') (h8 : X8 = X8') (h9 : X9 = X9') (hv : Xv = Xv') (ha : Xa = Xa') :
    k0_pay2 Xe (k0_pay23 Xb) (k0_pay24 Xe Xb Xv X6 X9 X7 X8 y) Xa = k0_pay2 Xe' (k0_pay23 Xb') (k0_pay24 Xe' Xb' Xv' X6' X9' X7' X8' y') Xa' := by
  rw [hy, hb, he, h6, h7, h8, h9, hv, ha]

theorem pay3_congr {Xv Xv' Xa Xa' : Vec F S16x256 .f32} {X10 X10' : Vec F S256x512 .f32} {X11 X11' : Vec F S1x256 .f32}
    (hv : Xv = Xv') (ha : Xa = Xa') (h10 : X10 = X10') (h11 : X11 = X11') : k0_pay3 Xv Xa X10 X11 = k0_pay3 Xv' Xa' X10' X11' := by
  rw [hv, ha, h10, h11]

abbrev ptq (c : Dev nD) {sp : Space} {S : Shape} {e : EltTy} (M : Memref sig .tc sp S e) (q : PosShare TreeShare) (f : Bf (F := F) c M) : sProp 𝕄 :=
  M.view.loc (c : Thread nD τ) ↦{q} f

/-- The place of row `r`, column `j` among the embeddings. -/
def seIdx (r : ℕ) (hr : r < 32768) (j : Fin 256) : S32768x256.Idx := Shape.pair (d := ![32768, 256]) ⟨r, hr⟩ j

/-- The sixteen rows of the embeddings the sessions' last tokens stand at, as the counts give them. -/
def vnOf {c : Dev nD} (fse : Bf (F := F) c hbSe) (X : Vec F S256x128 .i32) : Vec F S16x256 .f32 :=
  fun y => fse (seIdx (rowN (k0_pay5 (F := F) X) (BitVec.ofNat 32 (y 0).val)) (rowN_lt _ _) (y 1))

theorem row_mem (s : ℕ) (inb : ∀ a, (![s, 0] : Fin 2 → ℕ) a + S1x256.size a ≤ S16x256.size a) (y : S16x256.Idx) (h : (y 0).val = s) :
    y ∈ (Rect.unit (s := S16x256) ![s, 0] S1x256.size inb).set := by
  refine (Rect.unit (s := S16x256) ![s, 0] S1x256.size inb).mem_set.mpr ?_
  intro a
  have h1 : (y 1).val < 256 := (y 1).isLt
  fin_cases a
  · exact ⟨0, (by decide : 0 < 1), by show (y 0).val = s + 1 * 0; omega⟩
  · exact ⟨(y 1).val, h1, by show (y 1).val = 0 + 1 * (y 1).val; omega⟩

/-- Sixteen one-row pieces, each agreeing with `G` on its row, leave `G`. -/
theorem rows_read {κ : Kind} {sp : Space} (v : View sig κ sp S16x256 .f32) (f : v.ty.Contents (Elt F)) (G : Vec F S16x256 .f32)
    (P0 P1 P2 P3 P4 P5 P6 P7 P8 P9 P10 P11 P12 P13 P14 P15 : S1x256.Idx → Elt F .f32)
    (i0 : ∀ a, (![0, 0] : Fin 2 → ℕ) a + S1x256.size a ≤ S16x256.size a)
    (i1 : ∀ a, (![1, 0] : Fin 2 → ℕ) a + S1x256.size a ≤ S16x256.size a)
    (i2 : ∀ a, (![2, 0] : Fin 2 → ℕ) a + S1x256.size a ≤ S16x256.size a)
    (i3 : ∀ a, (![3, 0] : Fin 2 → ℕ) a + S1x256.size a ≤ S16x256.size a)
    (i4 : ∀ a, (![4, 0] : Fin 2 → ℕ) a + S1x256.size a ≤ S16x256.size a)
    (i5 : ∀ a, (![5, 0] : Fin 2 → ℕ) a + S1x256.size a ≤ S16x256.size a)
    (i6 : ∀ a, (![6, 0] : Fin 2 → ℕ) a + S1x256.size a ≤ S16x256.size a)
    (i7 : ∀ a, (![7, 0] : Fin 2 → ℕ) a + S1x256.size a ≤ S16x256.size a)
    (i8 : ∀ a, (![8, 0] : Fin 2 → ℕ) a + S1x256.size a ≤ S16x256.size a)
    (i9 : ∀ a, (![9, 0] : Fin 2 → ℕ) a + S1x256.size a ≤ S16x256.size a)
    (i10 : ∀ a, (![10, 0] : Fin 2 → ℕ) a + S1x256.size a ≤ S16x256.size a)
    (i11 : ∀ a, (![11, 0] : Fin 2 → ℕ) a + S1x256.size a ≤ S16x256.size a)
    (i12 : ∀ a, (![12, 0] : Fin 2 → ℕ) a + S1x256.size a ≤ S16x256.size a)
    (i13 : ∀ a, (![13, 0] : Fin 2 → ℕ) a + S1x256.size a ≤ S16x256.size a)
    (i14 : ∀ a, (![14, 0] : Fin 2 → ℕ) a + S1x256.size a ≤ S16x256.size a)
    (i15 : ∀ a, (![15, 0] : Fin 2 → ℕ) a + S1x256.size a ≤ S16x256.size a)
    (h0 : ∀ x, P0 x = G ((Rect.unit (s := S16x256) ![0, 0] S1x256.size i0).emb x))
    (h1 : ∀ x, P1 x = G ((Rect.unit (s := S16x256) ![1, 0] S1x256.size i1).emb x))
    (h2 : ∀ x, P2 x = G ((Rect.unit (s := S16x256) ![2, 0] S1x256.size i2).emb x))
    (h3 : ∀ x, P3 x = G ((Rect.unit (s := S16x256) ![3, 0] S1x256.size i3).emb x))
    (h4 : ∀ x, P4 x = G ((Rect.unit (s := S16x256) ![4, 0] S1x256.size i4).emb x))
    (h5 : ∀ x, P5 x = G ((Rect.unit (s := S16x256) ![5, 0] S1x256.size i5).emb x))
    (h6 : ∀ x, P6 x = G ((Rect.unit (s := S16x256) ![6, 0] S1x256.size i6).emb x))
    (h7 : ∀ x, P7 x = G ((Rect.unit (s := S16x256) ![7, 0] S1x256.size i7).emb x))
    (h8 : ∀ x, P8 x = G ((Rect.unit (s := S16x256) ![8, 0] S1x256.size i8).emb x))
    (h9 : ∀ x, P9 x = G ((Rect.unit (s := S16x256) ![9, 0] S1x256.size i9).emb x))
    (h10 : ∀ x, P10 x = G ((Rect.unit (s := S16x256) ![10, 0] S1x256.size i10).emb x))
    (h11 : ∀ x, P11 x = G ((Rect.unit (s := S16x256) ![11, 0] S1x256.size i11).emb x))
    (h12 : ∀ x, P12 x = G ((Rect.unit (s := S16x256) ![12, 0] S1x256.size i12).emb x))
    (h13 : ∀ x, P13 x = G ((Rect.unit (s := S16x256) ![13, 0] S1x256.size i13).emb x))
    (h14 : ∀ x, P14 x = G ((Rect.unit (s := S16x256) ![14, 0] S1x256.size i14).emb x))
    (h15 : ∀ x, P15 x = G ((Rect.unit (s := S16x256) ![15, 0] S1x256.size i15).emb x)) :
    v.read (Elt F) (v.writes (Elt F) f [⟨Rect.unit ![15, 0] S1x256.size i15, P15⟩, ⟨Rect.unit ![14, 0] S1x256.size i14, P14⟩, ⟨Rect.unit ![13, 0] S1x256.size i13, P13⟩, ⟨Rect.unit ![12, 0] S1x256.size i12, P12⟩, ⟨Rect.unit ![11, 0] S1x256.size i11, P11⟩, ⟨Rect.unit ![10, 0] S1x256.size i10, P10⟩, ⟨Rect.unit ![9, 0] S1x256.size i9, P9⟩, ⟨Rect.unit ![8, 0] S1x256.size i8, P8⟩, ⟨Rect.unit ![7, 0] S1x256.size i7, P7⟩, ⟨Rect.unit ![6, 0] S1x256.size i6, P6⟩, ⟨Rect.unit ![5, 0] S1x256.size i5, P5⟩, ⟨Rect.unit ![4, 0] S1x256.size i4, P4⟩, ⟨Rect.unit ![3, 0] S1x256.size i3, P3⟩, ⟨Rect.unit ![2, 0] S1x256.size i2, P2⟩, ⟨Rect.unit ![1, 0] S1x256.size i1, P1⟩, ⟨Rect.unit ![0, 0] S1x256.size i0, P0⟩]) = G := by
  funext y
  refine View.read_writes_apply_of_pieces v f G _ ?_ y ?_
  · simp only [List.forall_mem_cons]
    exact ⟨h15, h14, h13, h12, h11, h10, h9, h8, h7, h6, h5, h4, h3, h2, h1, h0, fun p hp => absurd hp List.not_mem_nil⟩
  · have hy : (y 0).val < 16 := (y 0).isLt
    simp only [List.exists_mem_cons_iff]
    by_cases e0 : (y 0).val = 0
    · exact Or.inr <| Or.inr <| Or.inr <| Or.inr <| Or.inr <| Or.inr <| Or.inr <| Or.inr <| Or.inr <| Or.inr <| Or.inr <| Or.inr <| Or.inr <| Or.inr <| Or.inr <| Or.inl (row_mem 0 i0 y e0)
    by_cases e1 : (y 0).val = 1
    · exact Or.inr <| Or.inr <| Or.inr <| Or.inr <| Or.inr <| Or.inr <| Or.inr <| Or.inr <| Or.inr <| Or.inr <| Or.inr <| Or.inr <| Or.inr <| Or.inr <| Or.inl (row_mem 1 i1 y e1)
    by_cases e2 : (y 0).val = 2
    · exact Or.inr <| Or.inr <| Or.inr <| Or.inr <| Or.inr <| Or.inr <| Or.inr <| Or.inr <| Or.inr <| Or.inr <| Or.inr <| Or.inr <| Or.inr <| Or.inl (row_mem 2 i2 y e2)
    by_cases e3 : (y 0).val = 3
    · exact Or.inr <| Or.inr <| Or.inr <| Or.inr <| Or.inr <| Or.inr <| Or.inr <| Or.inr <| Or.inr <| Or.inr <| Or.inr <| Or.inr <| Or.inl (row_mem 3 i3 y e3)
    by_cases e4 : (y 0).val = 4
    · exact Or.inr <| Or.inr <| Or.inr <| Or.inr <| Or.inr <| Or.inr <| Or.inr <| Or.inr <| Or.inr <| Or.inr <| Or.inr <| Or.inl (row_mem 4 i4 y e4)
    by_cases e5 : (y 0).val = 5
    · exact Or.inr <| Or.inr <| Or.inr <| Or.inr <| Or.inr <| Or.inr <| Or.inr <| Or.inr <| Or.inr <| Or.inr <| Or.inl (row_mem 5 i5 y e5)
    by_cases e6 : (y 0).val = 6
    · exact Or.inr <| Or.inr <| Or.inr <| Or.inr <| Or.inr <| Or.inr <| Or.inr <| Or.inr <| Or.inr <| Or.inl (row_mem 6 i6 y e6)
    by_cases e7 : (y 0).val = 7
    · exact Or.inr <| Or.inr <| Or.inr <| Or.inr <| Or.inr <| Or.inr <| Or.inr <| Or.inr <| Or.inl (row_mem 7 i7 y e7)
    by_cases e8 : (y 0).val = 8
    · exact Or.inr <| Or.inr <| Or.inr <| Or.inr <| Or.inr <| Or.inr <| Or.inr <| Or.inl (row_mem 8 i8 y e8)
    by_cases e9 : (y 0).val = 9
    · exact Or.inr <| Or.inr <| Or.inr <| Or.inr <| Or.inr <| Or.inr <| Or.inl (row_mem 9 i9 y e9)
    by_cases e10 : (y 0).val = 10
    · exact Or.inr <| Or.inr <| Or.inr <| Or.inr <| Or.inr <| Or.inl (row_mem 10 i10 y e10)
    by_cases e11 : (y 0).val = 11
    · exact Or.inr <| Or.inr <| Or.inr <| Or.inr <| Or.inl (row_mem 11 i11 y e11)
    by_cases e12 : (y 0).val = 12
    · exact Or.inr <| Or.inr <| Or.inr <| Or.inl (row_mem 12 i12 y e12)
    by_cases e13 : (y 0).val = 13
    · exact Or.inr <| Or.inr <| Or.inl (row_mem 13 i13 y e13)
    by_cases e14 : (y 0).val = 14
    · exact Or.inr <| Or.inl (row_mem 14 i14 y e14)
    by_cases e15 : (y 0).val = 15
    · exact Or.inl (row_mem 15 i15 y e15)
    omega

/-- A row copied from the embeddings, at the row number a count gives, is the gathered row. -/
theorem row_piece {c : Dev nD} (fse : Bf (F := F) c hbSe) (X : Vec F S256x128 .i32) (s : ℕ) (off : Fin 2 → ℕ)
    (ho : off = ![rowN (k0_pay5 (F := F) X) (BitVec.ofNat 32 s), 0])
    (inb : ∀ a, off a + S1x256.size a ≤ S32768x256.size a)
    (hst : ∀ a, (Rect.unit (s := S32768x256) off S1x256.size inb).stride a = 1)
    (inb' : ∀ a, (![s, 0] : Fin 2 → ℕ) a + S1x256.size a ≤ S16x256.size a) (x : S1x256.Idx) :
    ReadAs.same.apply (View.read (Elt F) (hbSe.slice (Rect.unit (s := S32768x256) off S1x256.size inb) hst).view fse) x
      = vnOf fse X ((Rect.unit (s := S16x256) ![s, 0] S1x256.size inb').emb x) := by
  subst ho
  have h0 : (x 0).val = 0 := Nat.lt_one_iff.mp (x 0).isLt
  refine congrArg fse ?_
  funext a
  fin_cases a
  · refine Fin.ext ?_
    show rowN (k0_pay5 (F := F) X) (BitVec.ofNat 32 s) + 1 * (x 0).val = rowN (k0_pay5 (F := F) X) (BitVec.ofNat 32 (s + 1 * (x 0).val))
    rw [h0, Nat.mul_zero, Nat.add_zero, Nat.add_zero]
  · exact Fin.ext (by show 0 + 1 * (x 1).val = 0 + 1 * (x 1).val; rfl)

theorem off0 (X : IVec S256x128 32) (s : BitVec 32) : k0_off1 (cntW X s) = ![rowN X s, 0] := by
  have h : ∀ w, k0_off1 w = ![rowW w, 0] := fun _ => rfl
  rw [h, rowW_cntW]

theorem off1 (X : IVec S256x128 32) (s : BitVec 32) : k0_off2 (cntW X s) = ![rowN X s, 0] := by
  have h : ∀ w, k0_off2 w = ![rowW w, 0] := fun _ => rfl
  rw [h, rowW_cntW]

theorem off2 (X : IVec S256x128 32) (s : BitVec 32) : k0_off3 (cntW X s) = ![rowN X s, 0] := by
  have h : ∀ w, k0_off3 w = ![rowW w, 0] := fun _ => rfl
  rw [h, rowW_cntW]

theorem off3 (X : IVec S256x128 32) (s : BitVec 32) : k0_off4 (cntW X s) = ![rowN X s, 0] := by
  have h : ∀ w, k0_off4 w = ![rowW w, 0] := fun _ => rfl
  rw [h, rowW_cntW]

theorem off4 (X : IVec S256x128 32) (s : BitVec 32) : k0_off5 (cntW X s) = ![rowN X s, 0] := by
  have h : ∀ w, k0_off5 w = ![rowW w, 0] := fun _ => rfl
  rw [h, rowW_cntW]

theorem off5 (X : IVec S256x128 32) (s : BitVec 32) : k0_off6 (cntW X s) = ![rowN X s, 0] := by
  have h : ∀ w, k0_off6 w = ![rowW w, 0] := fun _ => rfl
  rw [h, rowW_cntW]

theorem off6 (X : IVec S256x128 32) (s : BitVec 32) : k0_off7 (cntW X s) = ![rowN X s, 0] := by
  have h : ∀ w, k0_off7 w = ![rowW w, 0] := fun _ => rfl
  rw [h, rowW_cntW]

theorem off7 (X : IVec S256x128 32) (s : BitVec 32) : k0_off8 (cntW X s) = ![rowN X s, 0] := by
  have h : ∀ w, k0_off8 w = ![rowW w, 0] := fun _ => rfl
  rw [h, rowW_cntW]

theorem off8 (X : IVec S256x128 32) (s : BitVec 32) : k0_off9 (cntW X s) = ![rowN X s, 0] := by
  have h : ∀ w, k0_off9 w = ![rowW w, 0] := fun _ => rfl
  rw [h, rowW_cntW]

theorem off9 (X : IVec S256x128 32) (s : BitVec 32) : k0_off10 (cntW X s) = ![rowN X s, 0] := by
  have h : ∀ w, k0_off10 w = ![rowW w, 0] := fun _ => rfl
  rw [h, rowW_cntW]

theorem off10 (X : IVec S256x128 32) (s : BitVec 32) : k0_off11 (cntW X s) = ![rowN X s, 0] := by
  have h : ∀ w, k0_off11 w = ![rowW w, 0] := fun _ => rfl
  rw [h, rowW_cntW]

theorem off11 (X : IVec S256x128 32) (s : BitVec 32) : k0_off12 (cntW X s) = ![rowN X s, 0] := by
  have h : ∀ w, k0_off12 w = ![rowW w, 0] := fun _ => rfl
  rw [h, rowW_cntW]

theorem off12 (X : IVec S256x128 32) (s : BitVec 32) : k0_off13 (cntW X s) = ![rowN X s, 0] := by
  have h : ∀ w, k0_off13 w = ![rowW w, 0] := fun _ => rfl
  rw [h, rowW_cntW]

theorem off13 (X : IVec S256x128 32) (s : BitVec 32) : k0_off14 (cntW X s) = ![rowN X s, 0] := by
  have h : ∀ w, k0_off14 w = ![rowW w, 0] := fun _ => rfl
  rw [h, rowW_cntW]

theorem off14 (X : IVec S256x128 32) (s : BitVec 32) : k0_off15 (cntW X s) = ![rowN X s, 0] := by
  have h : ∀ w, k0_off15 w = ![rowW w, 0] := fun _ => rfl
  rw [h, rowW_cntW]

theorem off15 (X : IVec S256x128 32) (s : BitVec 32) : k0_off16 (cntW X s) = ![rowN X s, 0] := by
  have h : ∀ w, k0_off16 w = ![rowW w, 0] := fun _ => rfl
  rw [h, rowW_cntW]

set_option maxHeartbeats 4000000 in
/-- The first token block: sixteen rows of the embeddings are copied in, each chosen by a count of session numbers, the running
sum starts from zeros and takes the block in. -/
theorem runA (c : Dev nD) (i : grid0.Coords)
    (h1 : k0_cond1 i = 1#1) (h2 : Scalar.cmpi .ne (Scalar.extui (Scalar.cmpi .slt (BitVec.ofNat 32 (i 0).val) 8#32) : BitVec 32) 0#32 = 1#1) (h3 : Scalar.cmpi .ne (Scalar.extui (Scalar.cmpi .eq (BitVec.ofNat 32 (i 0).val) 0#32) : BitVec 32) 0#32 = 1#1) (h4 : ¬ Scalar.cmpi .ne (Scalar.extui (Scalar.cmpi .eq (BitVec.ofNat 32 (i 0).val) 7#32) : BitVec 32) 0#32 = 1#1) (h5 : ¬ k0_cond5 i = 1#1)
    (M1 : Memref sig .tc .smem S1 .f32) (w1 : M1.IsWhole)
    (M2 : Memref sig .tc .vmem S256x128 .i32) (w2 : M2.IsWhole)
    (M3 : Memref sig .tc .vmem S1x1x4096 .i32) (w3 : M3.IsWhole)
    (M5 : Memref sig .tc .vmem S4096x256 .f32) (w5 : M5.IsWhole)
    (M6 : Memref sig .tc .vmem S256x256 .f32) (w6 : M6.IsWhole)
    (M7 : Memref sig .tc .vmem S256x256 .f32) (w7 : M7.IsWhole)
    (M8 : Memref sig .tc .vmem S16x256 .f32) (w8 : M8.IsWhole)
    (M9 : Memref sig .tc .vmem S1x256 .f32) (w9 : M9.IsWhole)
    (M10 : Memref sig .tc .vmem S256x512 .f32) (w10 : M10.IsWhole)
    (M11 : Memref sig .tc .vmem S1x256 .f32) (w11 : M11.IsWhole)
    (M12 : Memref sig .tc .vmem S10240x256 .f32) (w12 : M12.IsWhole)
    (M13 : Memref sig .tc .vmem S16x10240 .f32) (w13 : M13.IsWhole)
    (fse : Bf (F := F) c hbSe) (Xq : Vec F S1 .f32) (X2 : Vec F S256x128 .i32) (Xb : Vec F S1x1x4096 .i32) (Xe : Vec F S4096x256 .f32) (X6 : Vec F S256x256 .f32) (X7 : Vec F S256x256 .f32) (X8 : Vec F S16x256 .f32) (X9 : Vec F S1x256 .f32)
    (W : Waits sig Unit) (Q : PUnit → sProp 𝕄)
    (_plan : Transfers.BatchOf (c : Thread nD τ) (SemLoc.dma (sig := sig) 16) 16 (windows := true)) :
    iprop(owns (c : Thread nD τ) M1 fullShare Xq ∗ owns (c : Thread nD τ) M2 fullShare X2 ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ (∃ X, owns (c : Thread nD τ) scVn fullShare X) ∗ (∃ X, owns (c : Thread nD τ) scAcc fullShare X) ∗ semVal ((c : Thread nD τ), SemLoc.dma 16) 0 ∗ owes (c : Thread nD τ) 0 W ∗ ptq c hbSe (Transfers.shareTokN fullShare.right 0) fse ∗ ptq c hbSe (Transfers.shareTokN fullShare.right 1) fse ∗ ptq c hbSe (Transfers.shareTokN fullShare.right 2) fse ∗ ptq c hbSe (Transfers.shareTokN fullShare.right 3) fse ∗ ptq c hbSe (Transfers.shareTokN fullShare.right 4) fse ∗ ptq c hbSe (Transfers.shareTokN fullShare.right 5) fse ∗ ptq c hbSe (Transfers.shareTokN fullShare.right 6) fse ∗ ptq c hbSe (Transfers.shareTokN fullShare.right 7) fse ∗ ptq c hbSe (Transfers.shareTokN fullShare.right 8) fse ∗ ptq c hbSe (Transfers.shareTokN fullShare.right 9) fse ∗ ptq c hbSe (Transfers.shareTokN fullShare.right 10) fse ∗ ptq c hbSe (Transfers.shareTokN fullShare.right 11) fse ∗ ptq c hbSe (Transfers.shareTokN fullShare.right 12) fse ∗ ptq c hbSe (Transfers.shareTokN fullShare.right 13) fse ∗ ptq c hbSe (Transfers.shareTokN fullShare.right 14) fse ∗ ptq c hbSe (Transfers.shareTokN fullShare.right 15) fse
      ∗ (iprop(owns (c : Thread nD τ) M1 fullShare Xq ∗ owns (c : Thread nD τ) M2 fullShare X2 ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) scVn fullShare (vnOf fse X2) ∗ owns (c : Thread nD τ) scAcc fullShare (accNext Xq Xb Xe X6 X7 X8 X9 (vnOf fse X2) k0_pay1) ∗ semVal ((c : Thread nD τ), SemLoc.dma 16) 0 ∗ (∃ W, owes (c : Thread nD τ) 0 W) ∗ ptq c hbSe (Transfers.shareTokN fullShare.right 0) fse ∗ ptq c hbSe (Transfers.shareTokN fullShare.right 1) fse ∗ ptq c hbSe (Transfers.shareTokN fullShare.right 2) fse ∗ ptq c hbSe (Transfers.shareTokN fullShare.right 3) fse ∗ ptq c hbSe (Transfers.shareTokN fullShare.right 4) fse ∗ ptq c hbSe (Transfers.shareTokN fullShare.right 5) fse ∗ ptq c hbSe (Transfers.shareTokN fullShare.right 6) fse ∗ ptq c hbSe (Transfers.shareTokN fullShare.right 7) fse ∗ ptq c hbSe (Transfers.shareTokN fullShare.right 8) fse ∗ ptq c hbSe (Transfers.shareTokN fullShare.right 9) fse ∗ ptq c hbSe (Transfers.shareTokN fullShare.right 10) fse ∗ ptq c hbSe (Transfers.shareTokN fullShare.right 11) fse ∗ ptq c hbSe (Transfers.shareTokN fullShare.right 12) fse ∗ ptq c hbSe (Transfers.shareTokN fullShare.right 13) fse ∗ ptq c hbSe (Transfers.shareTokN fullShare.right 14) fse ∗ ptq c hbSe (Transfers.shareTokN fullShare.right 15) fse) -∗ Q ⟨⟩))
    ⊢ wp frame (wpE (defs₀ (F := F)) Variants.none c none) Set.univ
        (cc0__body i M1 w1 M2 w2 M3 w3 hbSe (Memref.isWhole_whole _) M5 w5 M6 w6 M7 w7 M8 w8 M9 w9 M10 w10 M11 w11 M12 w12 M13 w13
          scAcc (Memref.isWhole_whole _) scSh (Memref.isWhole_whole _) scVn (Memref.isWhole_whole _) cc0_scratch3) Q := by
  iintro ⟨H1, H2, H3, H5, H6, H7, H8, H9, ⟨%Xv, Hv⟩, ⟨%Xa, Ha⟩, Hd, HO, HC0, HC1, HC2, HC3, HC4, HC5, HC6, HC7, HC8, HC9, HC10, HC11, HC12, HC13, HC14, HC15, Hk⟩
  ihave H1 := own_open c M1 w1 Xq $$ H1
  ihave H2 := own_open c M2 w2 X2 $$ H2
  ihave H3 := own_open c M3 w3 Xb $$ H3
  ihave H5 := own_open c M5 w5 Xe $$ H5
  ihave H6 := own_open c M6 w6 X6 $$ H6
  ihave H7 := own_open c M7 w7 X7 $$ H7
  ihave H8 := own_open c M8 w8 X8 $$ H8
  ihave H9 := own_open c M9 w9 X9 $$ H9
  ihave Hv := own_open c scVn (Memref.isWhole_whole _) Xv $$ Hv
  ihave Ha := own_open c scAcc (Memref.isWhole_whole _) Xa $$ Ha
  icases H1 with ⟨%f1, %e1, H1⟩
  icases H2 with ⟨%f2, %e2, H2⟩
  icases H3 with ⟨%f3, %e3, H3⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases Hv with ⟨%fv, %ev, Hv⟩
  icases Ha with ⟨%fa, %ea, Ha⟩
  have c1 : ∀ X : Vec F S256x128 .i32, k0_chk1 i (extractAt ![0, 0, 0] (k0_pay6 X) inpos_S1x1x1_p0_0_0) := fun X => chk1 i X
  have c2 : ∀ X : Vec F S256x128 .i32, k0_chk2 i (extractAt ![0, 0, 0] (k0_pay7 X) inpos_S1x1x1_p0_0_0) := fun X => chk2 i X
  have c3 : ∀ X : Vec F S256x128 .i32, k0_chk3 i (extractAt ![0, 0, 0] (k0_pay8 X) inpos_S1x1x1_p0_0_0) := fun X => chk3 i X
  have c4 : ∀ X : Vec F S256x128 .i32, k0_chk4 i (extractAt ![0, 0, 0] (k0_pay9 (k0_pay5 (F := F) X)) inpos_S1x1x1_p0_0_0) := fun X => chk4 i X
  have c5 : ∀ X : Vec F S256x128 .i32, k0_chk5 i (extractAt ![0, 0, 0] (k0_pay10 (k0_pay5 (F := F) X)) inpos_S1x1x1_p0_0_0) := fun X => chk5 i X
  have c6 : ∀ X : Vec F S256x128 .i32, k0_chk6 i (extractAt ![0, 0, 0] (k0_pay11 (k0_pay5 (F := F) X)) inpos_S1x1x1_p0_0_0) := fun X => chk6 i X
  have c7 : ∀ X : Vec F S256x128 .i32, k0_chk7 i (extractAt ![0, 0, 0] (k0_pay12 (k0_pay5 (F := F) X)) inpos_S1x1x1_p0_0_0) := fun X => chk7 i X
  have c8 : ∀ X : Vec F S256x128 .i32, k0_chk8 i (extractAt ![0, 0, 0] (k0_pay13 (k0_pay5 (F := F) X)) inpos_S1x1x1_p0_0_0) := fun X => chk8 i X
  have c9 : ∀ X : Vec F S256x128 .i32, k0_chk9 i (extractAt ![0, 0, 0] (k0_pay14 (k0_pay5 (F := F) X)) inpos_S1x1x1_p0_0_0) := fun X => chk9 i X
  have c10 : ∀ X : Vec F S256x128 .i32, k0_chk10 i (extractAt ![0, 0, 0] (k0_pay15 (k0_pay5 (F := F) X)) inpos_S1x1x1_p0_0_0) := fun X => chk10 i X
  have c11 : ∀ X : Vec F S256x128 .i32, k0_chk11 i (extractAt ![0, 0, 0] (k0_pay16 (k0_pay5 (F := F) X)) inpos_S1x1x1_p0_0_0) := fun X => chk11 i X
  have c12 : ∀ X : Vec F S256x128 .i32, k0_chk12 i (extractAt ![0, 0, 0] (k0_pay17 (k0_pay5 (F := F) X)) inpos_S1x1x1_p0_0_0) := fun X => chk12 i X
  have c13 : ∀ X : Vec F S256x128 .i32, k0_chk13 i (extractAt ![0, 0, 0] (k0_pay18 (k0_pay5 (F := F) X)) inpos_S1x1x1_p0_0_0) := fun X => chk13 i X
  have c14 : ∀ X : Vec F S256x128 .i32, k0_chk14 i (extractAt ![0, 0, 0] (k0_pay19 (k0_pay5 (F := F) X)) inpos_S1x1x1_p0_0_0) := fun X => chk14 i X
  have c15 : ∀ X : Vec F S256x128 .i32, k0_chk15 i (extractAt ![0, 0, 0] (k0_pay20 (k0_pay5 (F := F) X)) inpos_S1x1x1_p0_0_0) := fun X => chk15 i X
  have c16 : ∀ X : Vec F S256x128 .i32, k0_chk16 i (extractAt ![0, 0, 0] (k0_pay21 (k0_pay5 (F := F) X)) inpos_S1x1x1_p0_0_0) := fun X => chk16 i X
  rw [cc0__body_eq_skeleton]
  unfold cc0__body_skel
  sl_exec
  sl_step
  have q0 : ∀ x, runA.sl.dma1 c i h1 M2 fse f2 c1 x = vnOf fse (M2.view.readAt (Elt F) (Rect.unit (s := S256x128) ![0, 0] S256x128.size inb_S256x128_S256x128_0_0).toLoadRect f2) ((Rect.unit (s := S16x256) ![0, 0] S1x256.size inb_S16x256_S1x256_0_0).emb x) := by
    unfold runA.sl.dma1
    try unfold runA.sl.v17
    try unfold runA.sl.v16
    try unfold runA.sl.v15
    try unfold runA.sl.v14
    try unfold runA.sl.v13
    try unfold runA.sl.v12
    try unfold runA.sl.v11
    intro x
    refine row_piece fse _ 0 _ ?_ _ _ _ x
    exact off0 (k0_pay5 (F := F) (M2.view.readAt (Elt F) (Rect.unit (s := S256x128) ![0, 0] S256x128.size inb_S256x128_S256x128_0_0).toLoadRect f2)) (BitVec.ofNat 32 0)
  have q1 : ∀ x, runA.sl.dma2 c i h1 M2 fse f2 c2 x = vnOf fse (M2.view.readAt (Elt F) (Rect.unit (s := S256x128) ![0, 0] S256x128.size inb_S256x128_S256x128_0_0).toLoadRect f2) ((Rect.unit (s := S16x256) ![1, 0] S1x256.size inb_S16x256_S1x256_1_0).emb x) := by
    unfold runA.sl.dma2
    try unfold runA.sl.v28
    try unfold runA.sl.v27
    try unfold runA.sl.v26
    try unfold runA.sl.v25
    try unfold runA.sl.v24
    try unfold runA.sl.v23
    try unfold runA.sl.v22
    intro x
    refine row_piece fse _ 1 _ ?_ _ _ _ x
    exact off1 (k0_pay5 (F := F) (M2.view.readAt (Elt F) (Rect.unit (s := S256x128) ![0, 0] S256x128.size inb_S256x128_S256x128_0_0).toLoadRect f2)) (BitVec.ofNat 32 1)
  have q2 : ∀ x, runA.sl.dma3 c i h1 M2 fse f2 c3 x = vnOf fse (M2.view.readAt (Elt F) (Rect.unit (s := S256x128) ![0, 0] S256x128.size inb_S256x128_S256x128_0_0).toLoadRect f2) ((Rect.unit (s := S16x256) ![2, 0] S1x256.size inb_S16x256_S1x256_2_0).emb x) := by
    unfold runA.sl.dma3
    try unfold runA.sl.v39
    try unfold runA.sl.v38
    try unfold runA.sl.v37
    try unfold runA.sl.v36
    try unfold runA.sl.v35
    try unfold runA.sl.v34
    try unfold runA.sl.v33
    intro x
    refine row_piece fse _ 2 _ ?_ _ _ _ x
    exact off2 (k0_pay5 (F := F) (M2.view.readAt (Elt F) (Rect.unit (s := S256x128) ![0, 0] S256x128.size inb_S256x128_S256x128_0_0).toLoadRect f2)) (BitVec.ofNat 32 2)
  have q3 : ∀ x, runA.sl.dma4 c i h1 M2 fse f2 c4 x = vnOf fse (M2.view.readAt (Elt F) (Rect.unit (s := S256x128) ![0, 0] S256x128.size inb_S256x128_S256x128_0_0).toLoadRect f2) ((Rect.unit (s := S16x256) ![3, 0] S1x256.size inb_S16x256_S1x256_3_0).emb x) := by
    unfold runA.sl.dma4
    try unfold runA.sl.v50
    try unfold runA.sl.v49
    try unfold runA.sl.v48
    try unfold runA.sl.v47
    try unfold runA.sl.v46
    try unfold runA.sl.v45
    try unfold runA.sl.v44
    intro x
    refine row_piece fse _ 3 _ ?_ _ _ _ x
    exact off3 (k0_pay5 (F := F) (M2.view.readAt (Elt F) (Rect.unit (s := S256x128) ![0, 0] S256x128.size inb_S256x128_S256x128_0_0).toLoadRect f2)) (BitVec.ofNat 32 3)
  have q4 : ∀ x, runA.sl.dma5 c i h1 M2 fse f2 c5 x = vnOf fse (M2.view.readAt (Elt F) (Rect.unit (s := S256x128) ![0, 0] S256x128.size inb_S256x128_S256x128_0_0).toLoadRect f2) ((Rect.unit (s := S16x256) ![4, 0] S1x256.size inb_S16x256_S1x256_4_0).emb x) := by
    unfold runA.sl.dma5
    try unfold runA.sl.v61
    try unfold runA.sl.v60
    try unfold runA.sl.v59
    try unfold runA.sl.v58
    try unfold runA.sl.v57
    try unfold runA.sl.v56
    try unfold runA.sl.v55
    intro x
    refine row_piece fse _ 4 _ ?_ _ _ _ x
    exact off4 (k0_pay5 (F := F) (M2.view.readAt (Elt F) (Rect.unit (s := S256x128) ![0, 0] S256x128.size inb_S256x128_S256x128_0_0).toLoadRect f2)) (BitVec.ofNat 32 4)
  have q5 : ∀ x, runA.sl.dma6 c i h1 M2 fse f2 c6 x = vnOf fse (M2.view.readAt (Elt F) (Rect.unit (s := S256x128) ![0, 0] S256x128.size inb_S256x128_S256x128_0_0).toLoadRect f2) ((Rect.unit (s := S16x256) ![5, 0] S1x256.size inb_S16x256_S1x256_5_0).emb x) := by
    unfold runA.sl.dma6
    try unfold runA.sl.v72
    try unfold runA.sl.v71
    try unfold runA.sl.v70
    try unfold runA.sl.v69
    try unfold runA.sl.v68
    try unfold runA.sl.v67
    try unfold runA.sl.v66
    intro x
    refine row_piece fse _ 5 _ ?_ _ _ _ x
    exact off5 (k0_pay5 (F := F) (M2.view.readAt (Elt F) (Rect.unit (s := S256x128) ![0, 0] S256x128.size inb_S256x128_S256x128_0_0).toLoadRect f2)) (BitVec.ofNat 32 5)
  have q6 : ∀ x, runA.sl.dma7 c i h1 M2 fse f2 c7 x = vnOf fse (M2.view.readAt (Elt F) (Rect.unit (s := S256x128) ![0, 0] S256x128.size inb_S256x128_S256x128_0_0).toLoadRect f2) ((Rect.unit (s := S16x256) ![6, 0] S1x256.size inb_S16x256_S1x256_6_0).emb x) := by
    unfold runA.sl.dma7
    try unfold runA.sl.v83
    try unfold runA.sl.v82
    try unfold runA.sl.v81
    try unfold runA.sl.v80
    try unfold runA.sl.v79
    try unfold runA.sl.v78
    try unfold runA.sl.v77
    intro x
    refine row_piece fse _ 6 _ ?_ _ _ _ x
    exact off6 (k0_pay5 (F := F) (M2.view.readAt (Elt F) (Rect.unit (s := S256x128) ![0, 0] S256x128.size inb_S256x128_S256x128_0_0).toLoadRect f2)) (BitVec.ofNat 32 6)
  have q7 : ∀ x, runA.sl.dma8 c i h1 M2 fse f2 c8 x = vnOf fse (M2.view.readAt (Elt F) (Rect.unit (s := S256x128) ![0, 0] S256x128.size inb_S256x128_S256x128_0_0).toLoadRect f2) ((Rect.unit (s := S16x256) ![7, 0] S1x256.size inb_S16x256_S1x256_7_0).emb x) := by
    unfold runA.sl.dma8
    try unfold runA.sl.v94
    try unfold runA.sl.v93
    try unfold runA.sl.v92
    try unfold runA.sl.v91
    try unfold runA.sl.v90
    try unfold runA.sl.v89
    try unfold runA.sl.v88
    intro x
    refine row_piece fse _ 7 _ ?_ _ _ _ x
    exact off7 (k0_pay5 (F := F) (M2.view.readAt (Elt F) (Rect.unit (s := S256x128) ![0, 0] S256x128.size inb_S256x128_S256x128_0_0).toLoadRect f2)) (BitVec.ofNat 32 7)
  have q8 : ∀ x, runA.sl.dma9 c i h1 M2 fse f2 c9 x = vnOf fse (M2.view.readAt (Elt F) (Rect.unit (s := S256x128) ![0, 0] S256x128.size inb_S256x128_S256x128_0_0).toLoadRect f2) ((Rect.unit (s := S16x256) ![8, 0] S1x256.size inb_S16x256_S1x256_8_0).emb x) := by
    unfold runA.sl.dma9
    try unfold runA.sl.v105
    try unfold runA.sl.v104
    try unfold runA.sl.v103
    try unfold runA.sl.v102
    try unfold runA.sl.v101
    try unfold runA.sl.v100
    try unfold runA.sl.v99
    intro x
    refine row_piece fse _ 8 _ ?_ _ _ _ x
    exact off8 (k0_pay5 (F := F) (M2.view.readAt (Elt F) (Rect.unit (s := S256x128) ![0, 0] S256x128.size inb_S256x128_S256x128_0_0).toLoadRect f2)) (BitVec.ofNat 32 8)
  have q9 : ∀ x, runA.sl.dma10 c i h1 M2 fse f2 c10 x = vnOf fse (M2.view.readAt (Elt F) (Rect.unit (s := S256x128) ![0, 0] S256x128.size inb_S256x128_S256x128_0_0).toLoadRect f2) ((Rect.unit (s := S16x256) ![9, 0] S1x256.size inb_S16x256_S1x256_9_0).emb x) := by
    unfold runA.sl.dma10
    try unfold runA.sl.v116
    try unfold runA.sl.v115
    try unfold runA.sl.v114
    try unfold runA.sl.v113
    try unfold runA.sl.v112
    try unfold runA.sl.v111
    try unfold runA.sl.v110
    intro x
    refine row_piece fse _ 9 _ ?_ _ _ _ x
    exact off9 (k0_pay5 (F := F) (M2.view.readAt (Elt F) (Rect.unit (s := S256x128) ![0, 0] S256x128.size inb_S256x128_S256x128_0_0).toLoadRect f2)) (BitVec.ofNat 32 9)
  have q10 : ∀ x, runA.sl.dma11 c i h1 M2 fse f2 c11 x = vnOf fse (M2.view.readAt (Elt F) (Rect.unit (s := S256x128) ![0, 0] S256x128.size inb_S256x128_S256x128_0_0).toLoadRect f2) ((Rect.unit (s := S16x256) ![10, 0] S1x256.size inb_S16x256_S1x256_10_0).emb x) := by
    unfold runA.sl.dma11
    try unfold runA.sl.v127
    try unfold runA.sl.v126
    try unfold runA.sl.v125
    try unfold runA.sl.v124
    try unfold runA.sl.v123
    try unfold runA.sl.v122
    try unfold runA.sl.v121
    intro x
    refine row_piece fse _ 10 _ ?_ _ _ _ x
    exact off10 (k0_pay5 (F := F) (M2.view.readAt (Elt F) (Rect.unit (s := S256x128) ![0, 0] S256x128.size inb_S256x128_S256x128_0_0).toLoadRect f2)) (BitVec.ofNat 32 10)
  have q11 : ∀ x, runA.sl.dma12 c i h1 M2 fse f2 c12 x = vnOf fse (M2.view.readAt (Elt F) (Rect.unit (s := S256x128) ![0, 0] S256x128.size inb_S256x128_S256x128_0_0).toLoadRect f2) ((Rect.unit (s := S16x256) ![11, 0] S1x256.size inb_S16x256_S1x256_11_0).emb x) := by
    unfold runA.sl.dma12
    try unfold runA.sl.v138
    try unfold runA.sl.v137
    try unfold runA.sl.v136
    try unfold runA.sl.v135
    try unfold runA.sl.v134
    try unfold runA.sl.v133
    try unfold runA.sl.v132
    intro x
    refine row_piece fse _ 11 _ ?_ _ _ _ x
    exact off11 (k0_pay5 (F := F) (M2.view.readAt (Elt F) (Rect.unit (s := S256x128) ![0, 0] S256x128.size inb_S256x128_S256x128_0_0).toLoadRect f2)) (BitVec.ofNat 32 11)
  have q12 : ∀ x, runA.sl.dma13 c i h1 M2 fse f2 c13 x = vnOf fse (M2.view.readAt (Elt F) (Rect.unit (s := S256x128) ![0, 0] S256x128.size inb_S256x128_S256x128_0_0).toLoadRect f2) ((Rect.unit (s := S16x256) ![12, 0] S1x256.size inb_S16x256_S1x256_12_0).emb x) := by
    unfold runA.sl.dma13
    try unfold runA.sl.v149
    try unfold runA.sl.v148
    try unfold runA.sl.v147
    try unfold runA.sl.v146
    try unfold runA.sl.v145
    try unfold runA.sl.v144
    try unfold runA.sl.v143
    intro x
    refine row_piece fse _ 12 _ ?_ _ _ _ x
    exact off12 (k0_pay5 (F := F) (M2.view.readAt (Elt F) (Rect.unit (s := S256x128) ![0, 0] S256x128.size inb_S256x128_S256x128_0_0).toLoadRect f2)) (BitVec.ofNat 32 12)
  have q13 : ∀ x, runA.sl.dma14 c i h1 M2 fse f2 c14 x = vnOf fse (M2.view.readAt (Elt F) (Rect.unit (s := S256x128) ![0, 0] S256x128.size inb_S256x128_S256x128_0_0).toLoadRect f2) ((Rect.unit (s := S16x256) ![13, 0] S1x256.size inb_S16x256_S1x256_13_0).emb x) := by
    unfold runA.sl.dma14
    try unfold runA.sl.v160
    try unfold runA.sl.v159
    try unfold runA.sl.v158
    try unfold runA.sl.v157
    try unfold runA.sl.v156
    try unfold runA.sl.v155
    try unfold runA.sl.v154
    intro x
    refine row_piece fse _ 13 _ ?_ _ _ _ x
    exact off13 (k0_pay5 (F := F) (M2.view.readAt (Elt F) (Rect.unit (s := S256x128) ![0, 0] S256x128.size inb_S256x128_S256x128_0_0).toLoadRect f2)) (BitVec.ofNat 32 13)
  have q14 : ∀ x, runA.sl.dma15 c i h1 M2 fse f2 c15 x = vnOf fse (M2.view.readAt (Elt F) (Rect.unit (s := S256x128) ![0, 0] S256x128.size inb_S256x128_S256x128_0_0).toLoadRect f2) ((Rect.unit (s := S16x256) ![14, 0] S1x256.size inb_S16x256_S1x256_14_0).emb x) := by
    unfold runA.sl.dma15
    try unfold runA.sl.v171
    try unfold runA.sl.v170
    try unfold runA.sl.v169
    try unfold runA.sl.v168
    try unfold runA.sl.v167
    try unfold runA.sl.v166
    try unfold runA.sl.v165
    intro x
    refine row_piece fse _ 14 _ ?_ _ _ _ x
    exact off14 (k0_pay5 (F := F) (M2.view.readAt (Elt F) (Rect.unit (s := S256x128) ![0, 0] S256x128.size inb_S256x128_S256x128_0_0).toLoadRect f2)) (BitVec.ofNat 32 14)
  have q15 : ∀ x, runA.sl.dma16 c i h1 M2 fse f2 c16 x = vnOf fse (M2.view.readAt (Elt F) (Rect.unit (s := S256x128) ![0, 0] S256x128.size inb_S256x128_S256x128_0_0).toLoadRect f2) ((Rect.unit (s := S16x256) ![15, 0] S1x256.size inb_S16x256_S1x256_15_0).emb x) := by
    unfold runA.sl.dma16
    try unfold runA.sl.v182
    try unfold runA.sl.v181
    try unfold runA.sl.v180
    try unfold runA.sl.v179
    try unfold runA.sl.v178
    try unfold runA.sl.v177
    try unfold runA.sl.v176
    intro x
    refine row_piece fse _ 15 _ ?_ _ _ _ x
    exact off15 (k0_pay5 (F := F) (M2.view.readAt (Elt F) (Rect.unit (s := S256x128) ![0, 0] S256x128.size inb_S256x128_S256x128_0_0).toLoadRect f2)) (BitVec.ofNat 32 15)
  iapply Hk
  isplitl [H1]; · iapply own_close c M1 w1 Xq f1 e1 $$ H1
  isplitl [H2]; · iapply own_close c M2 w2 X2 f2 e2 $$ H2
  isplitl [H3]; · iapply own_close c M3 w3 Xb f3 e3 $$ H3
  isplitl [H5]; · iapply own_close c M5 w5 Xe f5 e5 $$ H5
  isplitl [H6]; · iapply own_close c M6 w6 X6 f6 e6 $$ H6
  isplitl [H7]; · iapply own_close c M7 w7 X7 f7 e7 $$ H7
  isplitl [H8]; · iapply own_close c M8 w8 X8 f8 e8 $$ H8
  isplitl [H9]; · iapply own_close c M9 w9 X9 f9 e9 $$ H9
  isplitl [Hv]
  · iapply own_close c scVn (Memref.isWhole_whole _) _ _ ?_ $$ Hv
    exact (rows_read scVn.view fv (vnOf fse (M2.view.readAt (Elt F) (Rect.unit (s := S256x128) ![0, 0] S256x128.size inb_S256x128_S256x128_0_0).toLoadRect f2)) _ _ _ _ _ _ _ _ _ _ _ _ _ _ _ _ _ _ _ _ _ _ _ _ _ _ _ _ _ _ _ _ q0 q1 q2 q3 q4 q5 q6 q7 q8 q9 q10 q11 q12 q13 q14 q15).trans (congrArg (vnOf fse) ((rdAt M2.view zero2 _ f2).trans e2))
  isplitl [Ha]
  · iapply own_close c scAcc (Memref.isWhole_whole _) _ _ ?_ $$ Ha
    refine (rdW _ zero2 _ _ _ _).trans ?_
    unfold runA.sl.r_3 runA.sl.v19_1 runA.sl.v53 runA.sl.Ha_1
    exact (acc_congr (rdWord M1.view Xq _ f1 e1 _) ((rdAt _ zero3 _ _).trans e3) ((rdAt _ zero2 _ _).trans e5) ((rdAt _ zero2 _ _).trans e6) ((rdAt _ zero2 _ _).trans e7) ((rdAt _ zero2 _ _).trans e8) ((rdAt _ zero2 _ _).trans e9) (rdCov scVn.view zero2 _ _ _ (fun f => (rows_read scVn.view f (vnOf fse (M2.view.readAt (Elt F) (Rect.unit (s := S256x128) ![0, 0] S256x128.size inb_S256x128_S256x128_0_0).toLoadRect f2)) _ _ _ _ _ _ _ _ _ _ _ _ _ _ _ _ _ _ _ _ _ _ _ _ _ _ _ _ _ _ _ _ q0 q1 q2 q3 q4 q5 q6 q7 q8 q9 q10 q11 q12 q13 q14 q15).trans (congrArg (vnOf fse) ((rdAt M2.view zero2 _ f2).trans e2)))) (rdCov scAcc.view zero2 _ _ _ (fun f => rdW scAcc.view zero2 _ f _ _)))
  isplitl [Hd]; · iexact Hd
  isplitl [HO]; · iexists _; iexact HO
  isplitl [HC0]; · iexact HC0
  isplitl [HC1]; · iexact HC1
  isplitl [HC2]; · iexact HC2
  isplitl [HC3]; · iexact HC3
  isplitl [HC4]; · iexact HC4
  isplitl [HC5]; · iexact HC5
  isplitl [HC6]; · iexact HC6
  isplitl [HC7]; · iexact HC7
  isplitl [HC8]; · iexact HC8
  isplitl [HC9]; · iexact HC9
  isplitl [HC10]; · iexact HC10
  isplitl [HC11]; · iexact HC11
  isplitl [HC12]; · iexact HC12
  isplitl [HC13]; · iexact HC13
  isplitl [HC14]; · iexact HC14
  iexact HC15

/-- A token block after the first and before the last: the running sum takes the block in. -/
theorem runB (c : Dev nD) (i : grid0.Coords)
    (h1 : ¬ k0_cond1 i = 1#1) (h2 : Scalar.cmpi .ne (Scalar.extui (Scalar.cmpi .slt (BitVec.ofNat 32 (i 0).val) 8#32) : BitVec 32) 0#32 = 1#1) (h3 : ¬ Scalar.cmpi .ne (Scalar.extui (Scalar.cmpi .eq (BitVec.ofNat 32 (i 0).val) 0#32) : BitVec 32) 0#32 = 1#1) (h4 : ¬ Scalar.cmpi .ne (Scalar.extui (Scalar.cmpi .eq (BitVec.ofNat 32 (i 0).val) 7#32) : BitVec 32) 0#32 = 1#1) (h5 : ¬ k0_cond5 i = 1#1)
    (M1 : Memref sig .tc .smem S1 .f32) (w1 : M1.IsWhole)
    (M2 : Memref sig .tc .vmem S256x128 .i32) (w2 : M2.IsWhole)
    (M3 : Memref sig .tc .vmem S1x1x4096 .i32) (w3 : M3.IsWhole)
    (M5 : Memref sig .tc .vmem S4096x256 .f32) (w5 : M5.IsWhole)
    (M6 : Memref sig .tc .vmem S256x256 .f32) (w6 : M6.IsWhole)
    (M7 : Memref sig .tc .vmem S256x256 .f32) (w7 : M7.IsWhole)
    (M8 : Memref sig .tc .vmem S16x256 .f32) (w8 : M8.IsWhole)
    (M9 : Memref sig .tc .vmem S1x256 .f32) (w9 : M9.IsWhole)
    (M10 : Memref sig .tc .vmem S256x512 .f32) (w10 : M10.IsWhole)
    (M11 : Memref sig .tc .vmem S1x256 .f32) (w11 : M11.IsWhole)
    (M12 : Memref sig .tc .vmem S10240x256 .f32) (w12 : M12.IsWhole)
    (M13 : Memref sig .tc .vmem S16x10240 .f32) (w13 : M13.IsWhole)
    (Xq : Vec F S1 .f32) (Xb : Vec F S1x1x4096 .i32) (Xe : Vec F S4096x256 .f32) (X6 : Vec F S256x256 .f32) (X7 : Vec F S256x256 .f32) (X8 : Vec F S16x256 .f32) (X9 : Vec F S1x256 .f32) (Xa : Vec F S16x256 .f32) (Xv : Vec F S16x256 .f32)
    (W : Waits sig Unit) (Q : PUnit → sProp 𝕄) :
    iprop(owns (c : Thread nD τ) M1 fullShare Xq ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) scVn fullShare Xv ∗ owns (c : Thread nD τ) scAcc fullShare Xa ∗ owes (c : Thread nD τ) 0 W
      ∗ (iprop(owns (c : Thread nD τ) M1 fullShare Xq ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) scVn fullShare Xv ∗ owns (c : Thread nD τ) scAcc fullShare (accNext Xq Xb Xe X6 X7 X8 X9 Xv Xa) ∗ owes (c : Thread nD τ) 0 W) -∗ Q ⟨⟩))
    ⊢ wp frame (wpE (defs₀ (F := F)) Variants.none c none) Set.univ
        (cc0__body i M1 w1 M2 w2 M3 w3 hbSe (Memref.isWhole_whole _) M5 w5 M6 w6 M7 w7 M8 w8 M9 w9 M10 w10 M11 w11 M12 w12 M13 w13
          scAcc (Memref.isWhole_whole _) scSh (Memref.isWhole_whole _) scVn (Memref.isWhole_whole _) cc0_scratch3) Q := by
  iintro ⟨H1, H3, H5, H6, H7, H8, H9, Hv, Ha, HO, Hk⟩
  ihave H1 := own_open c M1 w1 Xq $$ H1
  ihave H3 := own_open c M3 w3 Xb $$ H3
  ihave H5 := own_open c M5 w5 Xe $$ H5
  ihave H6 := own_open c M6 w6 X6 $$ H6
  ihave H7 := own_open c M7 w7 X7 $$ H7
  ihave H8 := own_open c M8 w8 X8 $$ H8
  ihave H9 := own_open c M9 w9 X9 $$ H9
  ihave Hv := own_open c scVn (Memref.isWhole_whole _) Xv $$ Hv
  ihave Ha := own_open c scAcc (Memref.isWhole_whole _) Xa $$ Ha
  icases H1 with ⟨%f1, %e1, H1⟩
  icases H3 with ⟨%f3, %e3, H3⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases Hv with ⟨%fv, %ev, Hv⟩
  icases Ha with ⟨%fa, %ea, Ha⟩
  rw [cc0__body_eq_skeleton]
  unfold cc0__body_skel
  sl_exec
  sl_step
  iapply Hk
  isplitl [H1]; · iapply own_close c M1 w1 Xq f1 e1 $$ H1
  isplitl [H3]; · iapply own_close c M3 w3 Xb f3 e3 $$ H3
  isplitl [H5]; · iapply own_close c M5 w5 Xe f5 e5 $$ H5
  isplitl [H6]; · iapply own_close c M6 w6 X6 f6 e6 $$ H6
  isplitl [H7]; · iapply own_close c M7 w7 X7 f7 e7 $$ H7
  isplitl [H8]; · iapply own_close c M8 w8 X8 f8 e8 $$ H8
  isplitl [H9]; · iapply own_close c M9 w9 X9 f9 e9 $$ H9
  isplitl [Hv]; · iapply own_close c scVn (Memref.isWhole_whole _) Xv fv ev $$ Hv
  isplitl [Ha]
  · iapply own_close c scAcc (Memref.isWhole_whole _) _ _ ?_ $$ Ha
    exact (rdW _ zero2 _ _ _ _).trans (acc_congr (rdWord M1.view Xq _ f1 e1 _) ((rdAt _ zero3 _ _).trans e3) ((rdAt _ zero2 _ _).trans e5) ((rdAt _ zero2 _ _).trans e6) ((rdAt _ zero2 _ _).trans e7) ((rdAt _ zero2 _ _).trans e8) ((rdAt _ zero2 _ _).trans e9) ((rdAt _ zero2 _ _).trans ev) ((rdAt _ zero2 _ _).trans ea))
  iexact HO

/-- The last token block: the running sum takes the block in, and the hidden vectors of the sessions are made from it. -/
theorem runC (c : Dev nD) (i : grid0.Coords)
    (h1 : ¬ k0_cond1 i = 1#1) (h2 : Scalar.cmpi .ne (Scalar.extui (Scalar.cmpi .slt (BitVec.ofNat 32 (i 0).val) 8#32) : BitVec 32) 0#32 = 1#1) (h3 : ¬ Scalar.cmpi .ne (Scalar.extui (Scalar.cmpi .eq (BitVec.ofNat 32 (i 0).val) 0#32) : BitVec 32) 0#32 = 1#1) (h4 : Scalar.cmpi .ne (Scalar.extui (Scalar.cmpi .eq (BitVec.ofNat 32 (i 0).val) 7#32) : BitVec 32) 0#32 = 1#1) (h5 : ¬ k0_cond5 i = 1#1)
    (M1 : Memref sig .tc .smem S1 .f32) (w1 : M1.IsWhole)
    (M2 : Memref sig .tc .vmem S256x128 .i32) (w2 : M2.IsWhole)
    (M3 : Memref sig .tc .vmem S1x1x4096 .i32) (w3 : M3.IsWhole)
    (M5 : Memref sig .tc .vmem S4096x256 .f32) (w5 : M5.IsWhole)
    (M6 : Memref sig .tc .vmem S256x256 .f32) (w6 : M6.IsWhole)
    (M7 : Memref sig .tc .vmem S256x256 .f32) (w7 : M7.IsWhole)
    (M8 : Memref sig .tc .vmem S16x256 .f32) (w8 : M8.IsWhole)
    (M9 : Memref sig .tc .vmem S1x256 .f32) (w9 : M9.IsWhole)
    (M10 : Memref sig .tc .vmem S256x512 .f32) (w10 : M10.IsWhole)
    (M11 : Memref sig .tc .vmem S1x256 .f32) (w11 : M11.IsWhole)
    (M12 : Memref sig .tc .vmem S10240x256 .f32) (w12 : M12.IsWhole)
    (M13 : Memref sig .tc .vmem S16x10240 .f32) (w13 : M13.IsWhole)
    (Xq : Vec F S1 .f32) (Xb : Vec F S1x1x4096 .i32) (Xe : Vec F S4096x256 .f32) (X6 : Vec F S256x256 .f32) (X7 : Vec F S256x256 .f32) (X8 : Vec F S16x256 .f32) (X9 : Vec F S1x256 .f32) (X10 : Vec F S256x512 .f32) (X11 : Vec F S1x256 .f32) (Xa : Vec F S16x256 .f32) (Xv : Vec F S16x256 .f32)
    (W : Waits sig Unit) (Q : PUnit → sProp 𝕄) :
    iprop(owns (c : Thread nD τ) M1 fullShare Xq ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) scVn fullShare Xv ∗ owns (c : Thread nD τ) scAcc fullShare Xa ∗ (∃ X, owns (c : Thread nD τ) scSh fullShare X) ∗ owes (c : Thread nD τ) 0 W
      ∗ (iprop(owns (c : Thread nD τ) M1 fullShare Xq ∗ owns (c : Thread nD τ) M3 fullShare Xb ∗ owns (c : Thread nD τ) M5 fullShare Xe ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) scVn fullShare Xv ∗ owns (c : Thread nD τ) scAcc fullShare (accNext Xq Xb Xe X6 X7 X8 X9 Xv Xa) ∗ owns (c : Thread nD τ) scSh fullShare (k0_pay3 Xv (accNext Xq Xb Xe X6 X7 X8 X9 Xv Xa) X10 X11) ∗ owes (c : Thread nD τ) 0 W) -∗ Q ⟨⟩))
    ⊢ wp frame (wpE (defs₀ (F := F)) Variants.none c none) Set.univ
        (cc0__body i M1 w1 M2 w2 M3 w3 hbSe (Memref.isWhole_whole _) M5 w5 M6 w6 M7 w7 M8 w8 M9 w9 M10 w10 M11 w11 M12 w12 M13 w13
          scAcc (Memref.isWhole_whole _) scSh (Memref.isWhole_whole _) scVn (Memref.isWhole_whole _) cc0_scratch3) Q := by
  iintro ⟨H1, H3, H5, H6, H7, H8, H9, H10, H11, Hv, Ha, ⟨%Xs, Hs⟩, HO, Hk⟩
  ihave H1 := own_open c M1 w1 Xq $$ H1
  ihave H3 := own_open c M3 w3 Xb $$ H3
  ihave H5 := own_open c M5 w5 Xe $$ H5
  ihave H6 := own_open c M6 w6 X6 $$ H6
  ihave H7 := own_open c M7 w7 X7 $$ H7
  ihave H8 := own_open c M8 w8 X8 $$ H8
  ihave H9 := own_open c M9 w9 X9 $$ H9
  ihave H10 := own_open c M10 w10 X10 $$ H10
  ihave H11 := own_open c M11 w11 X11 $$ H11
  ihave Hv := own_open c scVn (Memref.isWhole_whole _) Xv $$ Hv
  ihave Ha := own_open c scAcc (Memref.isWhole_whole _) Xa $$ Ha
  ihave Hs := own_open c scSh (Memref.isWhole_whole _) Xs $$ Hs
  icases H1 with ⟨%f1, %e1, H1⟩
  icases H3 with ⟨%f3, %e3, H3⟩
  icases H5 with ⟨%f5, %e5, H5⟩
  icases H6 with ⟨%f6, %e6, H6⟩
  icases H7 with ⟨%f7, %e7, H7⟩
  icases H8 with ⟨%f8, %e8, H8⟩
  icases H9 with ⟨%f9, %e9, H9⟩
  icases H10 with ⟨%f10, %e10, H10⟩
  icases H11 with ⟨%f11, %e11, H11⟩
  icases Hv with ⟨%fv, %ev, Hv⟩
  icases Ha with ⟨%fa, %ea, Ha⟩
  icases Hs with ⟨%fs, %es, Hs⟩
  rw [cc0__body_eq_skeleton]
  unfold cc0__body_skel
  sl_exec
  sl_step
  iapply Hk
  isplitl [H1]; · iapply own_close c M1 w1 Xq f1 e1 $$ H1
  isplitl [H3]; · iapply own_close c M3 w3 Xb f3 e3 $$ H3
  isplitl [H5]; · iapply own_close c M5 w5 Xe f5 e5 $$ H5
  isplitl [H6]; · iapply own_close c M6 w6 X6 f6 e6 $$ H6
  isplitl [H7]; · iapply own_close c M7 w7 X7 f7 e7 $$ H7
  isplitl [H8]; · iapply own_close c M8 w8 X8 f8 e8 $$ H8
  isplitl [H9]; · iapply own_close c M9 w9 X9 f9 e9 $$ H9
  isplitl [H10]; · iapply own_close c M10 w10 X10 f10 e10 $$ H10
  isplitl [H11]; · iapply own_close c M11 w11 X11 f11 e11 $$ H11
  isplitl [Hv]; · iapply own_close c scVn (Memref.isWhole_whole _) Xv fv ev $$ Hv
  isplitl [Ha]
  · iapply own_close c scAcc (Memref.isWhole_whole _) _ _ ?_ $$ Ha
    exact (rdW _ zero2 _ _ _ _).trans (acc_congr (rdWord M1.view Xq _ f1 e1 _) ((rdAt _ zero3 _ _).trans e3) ((rdAt _ zero2 _ _).trans e5) ((rdAt _ zero2 _ _).trans e6) ((rdAt _ zero2 _ _).trans e7) ((rdAt _ zero2 _ _).trans e8) ((rdAt _ zero2 _ _).trans e9) ((rdAt _ zero2 _ _).trans ev) ((rdAt _ zero2 _ _).trans ea))
  isplitl [Hs]
  · iapply own_close c scSh (Memref.isWhole_whole _) _ _ ?_ $$ Hs
    exact (rdW _ zero2 _ _ _ _).trans (pay3_congr ((rdAt _ zero2 _ _).trans ev) (rdCov scAcc.view zero2 _ _ _ (fun f => (rdW scAcc.view zero2 _ f _ _).trans (acc_congr (rdWord M1.view Xq _ f1 e1 _) ((rdAt _ zero3 _ _).trans e3) ((rdAt _ zero2 _ _).trans e5) ((rdAt _ zero2 _ _).trans e6) ((rdAt _ zero2 _ _).trans e7) ((rdAt _ zero2 _ _).trans e8) ((rdAt _ zero2 _ _).trans e9) ((rdAt _ zero2 _ _).trans ev) ((rdAt _ zero2 _ _).trans ea)))) ((rdAt _ zero2 _ _).trans e10) ((rdAt _ zero2 _ _).trans e11))
  iexact HO

/-- A vocabulary block: the scores of the sessions against the block's items. -/
theorem runD (c : Dev nD) (i : grid0.Coords)
    (h1 : ¬ k0_cond1 i = 1#1) (h2 : ¬ Scalar.cmpi .ne (Scalar.extui (Scalar.cmpi .slt (BitVec.ofNat 32 (i 0).val) 8#32) : BitVec 32) 0#32 = 1#1) (h5 : k0_cond5 i = 1#1)
    (M1 : Memref sig .tc .smem S1 .f32) (w1 : M1.IsWhole)
    (M2 : Memref sig .tc .vmem S256x128 .i32) (w2 : M2.IsWhole)
    (M3 : Memref sig .tc .vmem S1x1x4096 .i32) (w3 : M3.IsWhole)
    (M5 : Memref sig .tc .vmem S4096x256 .f32) (w5 : M5.IsWhole)
    (M6 : Memref sig .tc .vmem S256x256 .f32) (w6 : M6.IsWhole)
    (M7 : Memref sig .tc .vmem S256x256 .f32) (w7 : M7.IsWhole)
    (M8 : Memref sig .tc .vmem S16x256 .f32) (w8 : M8.IsWhole)
    (M9 : Memref sig .tc .vmem S1x256 .f32) (w9 : M9.IsWhole)
    (M10 : Memref sig .tc .vmem S256x512 .f32) (w10 : M10.IsWhole)
    (M11 : Memref sig .tc .vmem S1x256 .f32) (w11 : M11.IsWhole)
    (M12 : Memref sig .tc .vmem S10240x256 .f32) (w12 : M12.IsWhole)
    (M13 : Memref sig .tc .vmem S16x10240 .f32) (w13 : M13.IsWhole)
    (Xs : Vec F S16x256 .f32) (X12 : Vec F S10240x256 .f32)
    (W : Waits sig Unit) (Q : PUnit → sProp 𝕄) :
    iprop(owns (c : Thread nD τ) scSh fullShare Xs ∗ owns (c : Thread nD τ) M12 fullShare X12 ∗ (∃ X, owns (c : Thread nD τ) M13 fullShare X) ∗ owes (c : Thread nD τ) 0 W
      ∗ (iprop(owns (c : Thread nD τ) scSh fullShare Xs ∗ owns (c : Thread nD τ) M12 fullShare X12 ∗ owns (c : Thread nD τ) M13 fullShare (k0_pay4 Xs X12) ∗ owes (c : Thread nD τ) 0 W) -∗ Q ⟨⟩))
    ⊢ wp frame (wpE (defs₀ (F := F)) Variants.none c none) Set.univ
        (cc0__body i M1 w1 M2 w2 M3 w3 hbSe (Memref.isWhole_whole _) M5 w5 M6 w6 M7 w7 M8 w8 M9 w9 M10 w10 M11 w11 M12 w12 M13 w13
          scAcc (Memref.isWhole_whole _) scSh (Memref.isWhole_whole _) scVn (Memref.isWhole_whole _) cc0_scratch3) Q := by
  iintro ⟨Hs, H12, ⟨%X13, H13⟩, HO, Hk⟩
  ihave Hs := own_open c scSh (Memref.isWhole_whole _) Xs $$ Hs
  ihave H12 := own_open c M12 w12 X12 $$ H12
  ihave H13 := own_open c M13 w13 X13 $$ H13
  icases Hs with ⟨%fs, %es, Hs⟩
  icases H12 with ⟨%f12, %e12, H12⟩
  icases H13 with ⟨%f13, %e13, H13⟩
  rw [cc0__body_eq_skeleton]
  unfold cc0__body_skel
  sl_exec
  sl_step
  iapply Hk
  isplitl [Hs]; · iapply own_close c scSh (Memref.isWhole_whole _) Xs fs es $$ Hs
  isplitl [H12]; · iapply own_close c M12 w12 X12 f12 e12 $$ H12
  isplitl [H13]
  · iapply own_close c M13 w13 _ _ ?_ $$ H13
    rw [rdW _ zero2, rdAt _ zero2, rdAt _ zero2, es, e12]
  iexact HO

end Cert.KernelIdeal.Hand

end
-- ==== Proof.IdealData.lean ====
module

public import proofs.«01_k».proof.Proof.IdealBody
public import proofs.«01_k».proof.Proof.Gen.KernelIdeal.Frame
public import Idealize.ShloMosaic.Lib.Pipeline.DatRel
public import Idealize.ShloMosaic.Lib.Pipeline.Regions

/-!
The proof data of the one region: what every staging buffer and scratch buffer holds before and after each grid point,
and the proof that the kernel body keeps it so.

Points 0 to 7 go through the token blocks: the first gathers the last token of every session into `scVn` and clears the
accumulator, each adds its block's share of the session sums to `scAcc`, and point 7 turns both into the session
vectors, in `scSh`. Points 8 to 17 multiply the session vectors with one block of the item table each.

The last block of the item table overhangs its array, so the staging buffer's tail is unknown there; the output
window is therefore held to a relation (`rel`) instead of to named contents.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## Values carried from point to point -/

theorem N_eq : cfg0.N = 18 := N_0

/-- A grid point by its number. -/
def pnt (n : ℕ) (h : n < 18) : Fin cfg0.N := ⟨n, by rw [N_eq]; exact h⟩

/-- The last token of every session, as the first point gathers them. -/
def VN : Vec F S16x256 .f32 := vnOf (c := c) (V m c main_arg0) (iblk m c 1 (pnt 0 (by decide)))

/-- The session sums after `n` token blocks. -/
def accAt : ℕ → Vec F S16x256 .f32
  | 0 => k0_pay1
  | n + 1 => if h : n < cfg0.N then
      accNext (iblk m c 0 ⟨n, h⟩) (iblk m c 2 ⟨n, h⟩) (iblk m c 3 ⟨n, h⟩) (iblk m c 4 ⟨n, h⟩) (iblk m c 5 ⟨n, h⟩) (iblk m c 6 ⟨n, h⟩)
        (iblk m c 7 ⟨n, h⟩) (VN m c) (accAt n)
    else accAt n

theorem accAt_succ (t : Fin cfg0.N) : accAt m c (t.val + 1) =
    accNext (iblk m c 0 t) (iblk m c 2 t) (iblk m c 3 t) (iblk m c 4 t) (iblk m c 5 t) (iblk m c 6 t) (iblk m c 7 t) (VN m c) (accAt m c t.val) := by
  rw [accAt, dif_pos t.isLt]

/-- The session vectors. -/
def SH : Vec F S16x256 .f32 :=
  k0_pay3 (VN m c) (accAt m c 8) (iblk m c 8 (pnt 7 (by decide))) (iblk m c 9 (pnt 7 (by decide)))

/-- The item block at a point with the buffer's tail at `d`. -/
def item (t : Fin cfg0.N) (d : Vec F S10240x256 .f32) : Vec F S10240x256 .f32 :=
  (cfg0.win 10).fill (cfg0.grid.coords t) d (iblk m c 10 t)

/-! ## The invariant -/

/-- The sixteen read tokens of the token array that the gather lends to its copies. -/
def toks : sProp 𝕄 :=
  iprop(ptq c hbSe (Transfers.shareTokN fullShare.right 0) (V m c main_arg0) ∗ ptq c hbSe (Transfers.shareTokN fullShare.right 1) (V m c main_arg0) ∗ ptq c hbSe (Transfers.shareTokN fullShare.right 2) (V m c main_arg0) ∗ ptq c hbSe (Transfers.shareTokN fullShare.right 3) (V m c main_arg0) ∗ ptq c hbSe (Transfers.shareTokN fullShare.right 4) (V m c main_arg0) ∗ ptq c hbSe (Transfers.shareTokN fullShare.right 5) (V m c main_arg0) ∗ ptq c hbSe (Transfers.shareTokN fullShare.right 6) (V m c main_arg0) ∗ ptq c hbSe (Transfers.shareTokN fullShare.right 7) (V m c main_arg0) ∗ ptq c hbSe (Transfers.shareTokN fullShare.right 8) (V m c main_arg0) ∗ ptq c hbSe (Transfers.shareTokN fullShare.right 9) (V m c main_arg0) ∗ ptq c hbSe (Transfers.shareTokN fullShare.right 10) (V m c main_arg0) ∗ ptq c hbSe (Transfers.shareTokN fullShare.right 11) (V m c main_arg0) ∗ ptq c hbSe (Transfers.shareTokN fullShare.right 12) (V m c main_arg0) ∗ ptq c hbSe (Transfers.shareTokN fullShare.right 13) (V m c main_arg0) ∗ ptq c hbSe (Transfers.shareTokN fullShare.right 14) (V m c main_arg0) ∗ ptq c hbSe (Transfers.shareTokN fullShare.right 15) (V m c main_arg0))

/-- The scratch buffers before point `n`. -/
def scr (n : ℕ) : sProp 𝕄 :=
  if n = 0 then iprop((∃ X, owns (c : Thread nD τ) scVn fullShare X) ∗ (∃ X, owns (c : Thread nD τ) scAcc fullShare X)
      ∗ (∃ X, owns (c : Thread nD τ) scSh fullShare X))
  else if n < 8 then iprop(owns (c : Thread nD τ) scVn fullShare (VN m c) ∗ owns (c : Thread nD τ) scAcc fullShare (accAt m c n)
      ∗ (∃ X, owns (c : Thread nD τ) scSh fullShare X))
  else iprop(owns (c : Thread nD τ) scVn fullShare (VN m c) ∗ owns (c : Thread nD τ) scAcc fullShare (accAt m c 8)
      ∗ owns (c : Thread nD τ) scSh fullShare (SH m c))

/-- What holds between points: the scratch buffers, the copies' semaphore at zero, the read tokens. -/
def Phi (n : ℕ) : sProp 𝕄 := iprop(scr m c n ∗ semVal ((c : Thread nD τ), SemLoc.dma 16) 0 ∗ toks m c)

theorem scr_zero : scr m c 0 = iprop((∃ X, owns (c : Thread nD τ) scVn fullShare X) ∗ (∃ X, owns (c : Thread nD τ) scAcc fullShare X)
      ∗ (∃ X, owns (c : Thread nD τ) scSh fullShare X)) := if_pos rfl

theorem scr_mid (n : ℕ) (h0 : n ≠ 0) (h : n < 8) : scr m c n = iprop(owns (c : Thread nD τ) scVn fullShare (VN m c)
    ∗ owns (c : Thread nD τ) scAcc fullShare (accAt m c n) ∗ (∃ X, owns (c : Thread nD τ) scSh fullShare X)) :=
  (if_neg h0).trans (if_pos h)

theorem scr_high (n : ℕ) (h : ¬ n < 8) : scr m c n = iprop(owns (c : Thread nD τ) scVn fullShare (VN m c)
    ∗ owns (c : Thread nD τ) scAcc fullShare (accAt m c 8) ∗ owns (c : Thread nD τ) scSh fullShare (SH m c)) :=
  (if_neg (fun h0 => h (by omega))).trans (if_neg h)

/-! ## The data -/

/-- Some value, where none matters. -/
def anyV : Elt F .f32 := (k0_pay1 : Vec F S16x256 .f32) (Shape.pair (d := ![16, 256]) ⟨0, by decide⟩ ⟨0, by decide⟩)

/-- Which window is held to a relation: the output. -/
def mark : Fin cfg0.W → Bool :=
  fun | 0 => false | 1 => false | 2 => false | 3 => false | 4 => false | 5 => false | 6 => false | 7 => false | 8 => false | 9 => false | 10 => false | 11 => true
      | ⟨_ + 12, h⟩ => absurd h (Nat.not_lt.2 (Nat.le_add_left _ _))

/-- From point 8 on the body leaves the session vectors times the item block there, whatever the block's tail holds. -/
def rel : (w : Fin cfg0.W) → Fin cfg0.N → ((cfg0.win w).block.Idx → Elt F (cfg0.win w).elt) → Prop :=
  fun | 0 => fun _ _ => True | 1 => fun _ _ => True | 2 => fun _ _ => True | 3 => fun _ _ => True | 4 => fun _ _ => True | 5 => fun _ _ => True
      | 6 => fun _ _ => True | 7 => fun _ _ => True | 8 => fun _ _ => True | 9 => fun _ _ => True | 10 => fun _ _ => True
      | 11 => fun t X => 8 ≤ t.val → ∃ d, X = k0_pay4 (SH m c) (item m c t d)
      | ⟨_ + 12, h⟩ => absurd h (Nat.not_lt.2 (Nat.le_add_left _ _))

/-- The share of its array that each window reads: the token array is read by the gather too, so its window has half. -/
def shr : Fin cfg0.W → PosShare TreeShare :=
  fun | 3 => fullShare.left | _ => fullShare

/-- The proof data of the region on core `c`. -/
def dats (_ : Fin 1) (c : Dev nD) : Dat τ (Elt F) Unit ℕ (Pipeline.UD sig nD τ) ℕ cfg0 c where
  A w := V m c (Pipeline.arrRef spec0 w)
  after := fun
    | 0 => fun t => iblk m c 0 t | 1 => fun t => iblk m c 1 t | 2 => fun t => iblk m c 2 t | 3 => fun t => iblk m c 3 t
    | 4 => fun t => iblk m c 4 t | 5 => fun t => iblk m c 5 t | 6 => fun t => iblk m c 6 t | 7 => fun t => iblk m c 7 t
    | 8 => fun t => iblk m c 8 t | 9 => fun t => iblk m c 9 t | 10 => fun t => item m c t (fun _ => anyV)
    | 11 => fun _ _ => anyV
    | ⟨_ + 12, h⟩ => absurd h (Nat.not_lt.2 (Nat.le_add_left _ _))
  Φ t := Phi m c t.val
  q := shr
  owed _ := 0

theorem A_eq (c : Dev nD) (w : Fin cfg0.W) : (dats m 0 c).A w = V m c (Pipeline.arrRef spec0 w) := by
  dsimp only [dats]

/-! ## What the body finds in the input windows -/

theorem found_0 (t : Fin cfg0.N) (d) : (dats m 0 c).before 0 t d = iblk m c 0 t :=
  ((dats m 0 c).before_in_eq_fetched 0 rfl (fun _ => rfl) (fun _ _ _ => rfl) (fun t => by unfold Dat.blockOf; rw [A_eq]; rfl) t d).trans
    (by unfold Dat.fetched Dat.blockOf iblk; rw [A_eq]; rfl)

theorem found_1 (t : Fin cfg0.N) (d) : (dats m 0 c).before 1 t d = iblk m c 1 t :=
  ((dats m 0 c).before_in_eq_fetched 1 rfl (fun _ => rfl) (fun _ _ _ => rfl) (fun t => by unfold Dat.blockOf; rw [A_eq]; rfl) t d).trans
    (by unfold Dat.fetched Dat.blockOf iblk; rw [A_eq]; rfl)

theorem found_2 (t : Fin cfg0.N) (d) : (dats m 0 c).before 2 t d = iblk m c 2 t :=
  ((dats m 0 c).before_in_eq_fetched 2 rfl (fun _ => rfl) (fun _ _ _ => rfl) (fun t => by unfold Dat.blockOf; rw [A_eq]; rfl) t d).trans
    (by unfold Dat.fetched Dat.blockOf iblk; rw [A_eq]; rfl)

theorem found_3 (t : Fin cfg0.N) (d) : (dats m 0 c).before 3 t d = iblk m c 3 t :=
  ((dats m 0 c).before_in_eq_fetched 3 rfl (fun _ => rfl) (fun _ _ _ => rfl) (fun t => by unfold Dat.blockOf; rw [A_eq]; rfl) t d).trans
    (by unfold Dat.fetched Dat.blockOf iblk; rw [A_eq]; rfl)

theorem found_4 (t : Fin cfg0.N) (d) : (dats m 0 c).before 4 t d = iblk m c 4 t :=
  ((dats m 0 c).before_in_eq_fetched 4 rfl (fun _ => rfl) (fun _ _ _ => rfl) (fun t => by unfold Dat.blockOf; rw [A_eq]; rfl) t d).trans
    (by unfold Dat.fetched Dat.blockOf iblk; rw [A_eq]; rfl)

theorem found_5 (t : Fin cfg0.N) (d) : (dats m 0 c).before 5 t d = iblk m c 5 t :=
  ((dats m 0 c).before_in_eq_fetched 5 rfl (fun _ => rfl) (fun _ _ _ => rfl) (fun t => by unfold Dat.blockOf; rw [A_eq]; rfl) t d).trans
    (by unfold Dat.fetched Dat.blockOf iblk; rw [A_eq]; rfl)

theorem found_6 (t : Fin cfg0.N) (d) : (dats m 0 c).before 6 t d = iblk m c 6 t :=
  ((dats m 0 c).before_in_eq_fetched 6 rfl (fun _ => rfl) (fun _ _ _ => rfl) (fun t => by unfold Dat.blockOf; rw [A_eq]; rfl) t d).trans
    (by unfold Dat.fetched Dat.blockOf iblk; rw [A_eq]; rfl)

theorem found_7 (t : Fin cfg0.N) (d) : (dats m 0 c).before 7 t d = iblk m c 7 t :=
  ((dats m 0 c).before_in_eq_fetched 7 rfl (fun _ => rfl) (fun _ _ _ => rfl) (fun t => by unfold Dat.blockOf; rw [A_eq]; rfl) t d).trans
    (by unfold Dat.fetched Dat.blockOf iblk; rw [A_eq]; rfl)

theorem found_8 (t : Fin cfg0.N) (d) : (dats m 0 c).before 8 t d = iblk m c 8 t :=
  ((dats m 0 c).before_in_eq_fetched 8 rfl (fun _ => rfl) (fun _ _ _ => rfl) (fun t => by unfold Dat.blockOf; rw [A_eq]; rfl) t d).trans
    (by unfold Dat.fetched Dat.blockOf iblk; rw [A_eq]; rfl)

theorem found_9 (t : Fin cfg0.N) (d) : (dats m 0 c).before 9 t d = iblk m c 9 t :=
  ((dats m 0 c).before_in_eq_fetched 9 rfl (fun _ => rfl) (fun _ _ _ => rfl) (fun t => by unfold Dat.blockOf; rw [A_eq]; rfl) t d).trans
    (by unfold Dat.fetched Dat.blockOf iblk; rw [A_eq]; rfl)

/-- The item window's cut follows its block index. -/
theorem clip_item (t t' : Fin cfg0.N) (h : (cfg0.win 10).index t = (cfg0.win 10).index t') :
    (cfg0.win 10).clip (cfg0.grid.coords t) = (cfg0.win 10).clip (cfg0.grid.coords t') := by
  have h' : cc0_transform_11 (grid0.coords t) = cc0_transform_11 (grid0.coords t') := h
  funext a
  show Pipeline.Clip.of (cc0_transform_11 (grid0.coords t) a) _ _ = Pipeline.Clip.of (cc0_transform_11 (grid0.coords t') a) _ _
  rw [h']

/-- The item window holds its block, the buffer's tail at whatever it was. -/
theorem found_10 (t : Fin cfg0.N) (d) : (dats m 0 c).before 10 t d = item m c t d :=
  ((dats m 0 c).before_in_eq_fetched 10 rfl (fun _ => rfl) clip_item (fun t => by
    unfold Dat.blockOf; rw [A_eq]; exact (cfg0.win 10).cut_fill _ _ _) t d).trans
    (by unfold Dat.fetched Dat.blockOf item iblk; rw [A_eq])

end Cert.KernelIdeal.Hand

end
-- ==== Proof.IdealObl.lean ====
module

public import proofs.«01_k».proof.Proof.IdealData

/-!
The kernel body keeps the proof data: at every grid point, from the staging buffers as the fetches leave them and the
scratch buffers as the points before left them, the body runs to what the data name for the next point.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel cellOf)

variable {F : FTy → Type} [FloatOps F]

local notation "𝕄" => MT nD τ sig Unit (Elt F) ℕ (Pipeline.UD sig nD τ) ℕ

variable (m : (ℓ : Loc nD τ sig) → Buf (Elt F) ℓ) (c : Dev nD)

/-! ## Which branches a point takes -/

theorem cond1 : ∀ t : Fin cfg0.N, k0_cond1 (grid0.coords t) = 1#1 ↔ t.val = 0 := by decide +kernel
theorem cond2 : ∀ t : Fin cfg0.N, Scalar.cmpi .ne (Scalar.extui (Scalar.cmpi .slt (BitVec.ofNat 32 (grid0.coords t 0).val) 8#32) : BitVec 32) 0#32 = 1#1 ↔ t.val < 8 := by
  decide +kernel
theorem cond3 : ∀ t : Fin cfg0.N, Scalar.cmpi .ne (Scalar.extui (Scalar.cmpi .eq (BitVec.ofNat 32 (grid0.coords t 0).val) 0#32) : BitVec 32) 0#32 = 1#1 ↔ t.val = 0 := by
  decide +kernel
theorem cond4 : ∀ t : Fin cfg0.N, Scalar.cmpi .ne (Scalar.extui (Scalar.cmpi .eq (BitVec.ofNat 32 (grid0.coords t 0).val) 7#32) : BitVec 32) 0#32 = 1#1 ↔ t.val = 7 := by
  decide +kernel
theorem cond5 : ∀ t : Fin cfg0.N, k0_cond5 (grid0.coords t) = 1#1 ↔ 8 ≤ t.val := by decide +kernel

/-! ## The obligation, the windows one by one -/

/-- The staging buffers before the body, the output's apart. -/
def ins (t : Fin cfg0.N) : sProp 𝕄 :=
  iprop(owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t))

/-- The obligation at a point, spelt window by window. -/
def Obl (t : Fin cfg0.N) : Prop :=
  iprop(Phi m c t.val ∗ (∃ W, owes (c : Thread nD τ) 0 W) ∗ ins m c t
      ∗ (∃ d, owns (c : Thread nD τ) (st0_10 t) fullShare (item m c t d)) ∗ (∃ X, owns (c : Thread nD τ) (st0_11 t) fullShare X))
    ⊢ wp frame (wpE (defs₀ (F := F)) Variants.none c none) Set.univ (bodyAt0 t) fun _ =>
      iprop(Phi m c (t.val + 1) ∗ (∃ W, owes (c : Thread nD τ) 0 W) ∗ ins m c t
        ∗ (∃ d, owns (c : Thread nD τ) (st0_10 t) fullShare (item m c t d))
        ∗ (∃ X, ⌜rel m c 11 t X⌝ ∗ owns (c : Thread nD τ) (st0_11 t) fullShare X))

theorem rel_low (t : Fin cfg0.N) (h : t.val < 8) (X) : rel m c 11 t X := fun h8 => absurd h8 (by omega)

theorem rel_high (t : Fin cfg0.N) (d) : rel m c 11 t (k0_pay4 (SH m c) (item m c t d)) := fun _ => ⟨d, rfl⟩

theorem oblA (t : Fin cfg0.N) (h : t.val = 0) : Obl m c t := by
  unfold Obl Phi
  have et : t = pnt 0 (by decide) := Fin.ext h
  rw [h, scr_zero, scr_mid m c (0 + 1) (by decide) (by decide)]
  rw [show accAt m c (0 + 1) = accAt m c (t.val + 1) by rw [h], accAt_succ, h]
  unfold ins toks
  iintro ⟨⟨⟨Hv, Ha, Hs⟩, Hd, T0, T1, T2, T3, T4, T5, T6, T7, T8, T9, T10, T11, T12, T13, T14, T15⟩, ⟨%W, HO⟩, ⟨H0, H1, H2, H3, H4, H5, H6, H7, H8, H9⟩, Hit, Ho⟩
  icases Ho with ⟨%Xo, Ho⟩
  iapply (runA c (grid0.coords t) ((cond1 t).mpr h) ((cond2 t).mpr (by omega)) ((cond3 t).mpr h) (fun e => by have := (cond4 t).mp e; omega)
    (fun e => by have := (cond5 t).mp e; omega)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (V m c main_arg0) (iblk m c 0 t) (iblk m c 1 t) (iblk m c 2 t) (iblk m c 3 t) (iblk m c 4 t) (iblk m c 5 t) (iblk m c 6 t) (iblk m c 7 t) W _ trivial)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hv]; · iexact Hv
  isplitl [Ha]; · iexact Ha
  isplitl [Hd]; · iexact Hd
  isplitl [HO]; · iexact HO
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [T8]; · iexact T8
  isplitl [T9]; · iexact T9
  isplitl [T10]; · iexact T10
  isplitl [T11]; · iexact T11
  isplitl [T12]; · iexact T12
  isplitl [T13]; · iexact T13
  isplitl [T14]; · iexact T14
  isplitl [T15]; · iexact T15
  iintro ⟨H0, H1, H2, H3, H4, H5, H6, H7, Hv, Ha, Hd, HO, T0, T1, T2, T3, T4, T5, T6, T7, T8, T9, T10, T11, T12, T13, T14, T15⟩
  isplitl [Hv Ha Hs Hd T0 T1 T2 T3 T4 T5 T6 T7 T8 T9 T10 T11 T12 T13 T14 T15]
  · isplitl [Hv Ha Hs]
    · isplitl [Hv]; · rw [show VN m c = vnOf (c := c) (V m c main_arg0) (iblk m c 1 t) by rw [et]; rfl]; iexact Hv
      isplitl [Ha]; · rw [show VN m c = vnOf (c := c) (V m c main_arg0) (iblk m c 1 t) by rw [et]; rfl]; iexact Ha
      iexact Hs
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    iexact T15
  isplitl [HO]; · iexact HO
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hit]; · iexact Hit
  iexists Xo
  isplitr; · ipureintro; exact rel_low m c t (by omega) Xo
  iexact Ho

theorem oblB (t : Fin cfg0.N) (h0 : t.val ≠ 0) (h : t.val < 7) : Obl m c t := by
  unfold Obl Phi
  rw [scr_mid m c t.val h0 (by omega), scr_mid m c (t.val + 1) (by omega) (by omega), accAt_succ]
  unfold ins
  iintro ⟨⟨⟨Hv, Ha, Hs⟩, Hd, HT⟩, ⟨%W, HO⟩, ⟨H0, H1, H2, H3, H4, H5, H6, H7, H8, H9⟩, Hit, Ho⟩
  icases Ho with ⟨%Xo, Ho⟩
  iapply (runB c (grid0.coords t) (fun e => h0 ((cond1 t).mp e)) ((cond2 t).mpr (by omega)) (fun e => h0 ((cond3 t).mp e))
    (fun e => by have := (cond4 t).mp e; omega) (fun e => by have := (cond5 t).mp e; omega)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (iblk m c 0 t) (iblk m c 2 t) (iblk m c 3 t) (iblk m c 4 t) (iblk m c 5 t) (iblk m c 6 t) (iblk m c 7 t) (accAt m c t.val) (VN m c) W _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [Hv]; · iexact Hv
  isplitl [Ha]; · iexact Ha
  isplitl [HO]; · iexact HO
  iintro ⟨H0, H2, H3, H4, H5, H6, H7, Hv, Ha, HO⟩
  isplitl [Hv Ha Hs Hd HT]
  · isplitl [Hv Ha Hs]
    · isplitl [Hv]; · iexact Hv
      isplitl [Ha]; · iexact Ha
      iexact Hs
    isplitl [Hd]; · iexact Hd
    iexact HT
  isplitl [HO]; · iexists W; iexact HO
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hit]; · iexact Hit
  iexists Xo
  isplitr; · ipureintro; exact rel_low m c t (by omega) Xo
  iexact Ho

theorem oblC (t : Fin cfg0.N) (h : t.val = 7) : Obl m c t := by
  unfold Obl Phi
  have et : t = pnt 7 (by decide) := Fin.ext h
  have ea : accAt m c 8 = accNext (iblk m c 0 t) (iblk m c 2 t) (iblk m c 3 t) (iblk m c 4 t) (iblk m c 5 t) (iblk m c 6 t) (iblk m c 7 t) (VN m c)
      (accAt m c t.val) := by rw [← accAt_succ, h]
  rw [scr_mid m c t.val (by omega) (by omega), scr_high m c (t.val + 1) (by omega)]
  rw [show SH m c = k0_pay3 (VN m c) (accAt m c 8) (iblk m c 8 t) (iblk m c 9 t) by rw [et]; rfl, ea]
  unfold ins
  iintro ⟨⟨⟨Hv, Ha, Hs⟩, Hd, HT⟩, ⟨%W, HO⟩, ⟨H0, H1, H2, H3, H4, H5, H6, H7, H8, H9⟩, Hit, Ho⟩
  icases Ho with ⟨%Xo, Ho⟩
  iapply (runC c (grid0.coords t) (fun e => by have := (cond1 t).mp e; omega) ((cond2 t).mpr (by omega)) (fun e => by have := (cond3 t).mp e; omega)
    ((cond4 t).mpr h) (fun e => by have := (cond5 t).mp e; omega)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (iblk m c 0 t) (iblk m c 2 t) (iblk m c 3 t) (iblk m c 4 t) (iblk m c 5 t) (iblk m c 6 t) (iblk m c 7 t) (iblk m c 8 t) (iblk m c 9 t) (accAt m c t.val) (VN m c) W _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hv]; · iexact Hv
  isplitl [Ha]; · iexact Ha
  isplitl [Hs]; · iexact Hs
  isplitl [HO]; · iexact HO
  iintro ⟨H0, H2, H3, H4, H5, H6, H7, H8, H9, Hv, Ha, Hs, HO⟩
  isplitl [Hv Ha Hs Hd HT]
  · isplitl [Hv Ha Hs]
    · isplitl [Hv]; · iexact Hv
      isplitl [Ha]; · iexact Ha
      iexact Hs
    isplitl [Hd]; · iexact Hd
    iexact HT
  isplitl [HO]; · iexists W; iexact HO
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [Hit]; · iexact Hit
  iexists Xo
  isplitr; · ipureintro; exact rel_low m c t (by omega) Xo
  iexact Ho

theorem oblD (t : Fin cfg0.N) (h : 8 ≤ t.val) : Obl m c t := by
  unfold Obl Phi
  rw [scr_high m c t.val (by omega), scr_high m c (t.val + 1) (by omega)]
  iintro ⟨⟨⟨Hv, Ha, Hs⟩, Hd, HT⟩, ⟨%W, HO⟩, Hin, ⟨%d, Hit⟩, Ho⟩
  iapply (runD c (grid0.coords t) (fun e => by have := (cond1 t).mp e; omega) (fun e => by have := (cond2 t).mp e; omega) ((cond5 t).mpr h)
    (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
    (SH m c) (item m c t d) W _)
  isplitl [Hs]; · iexact Hs
  isplitl [Hit]; · iexact Hit
  isplitl [Ho]; · iexact Ho
  isplitl [HO]; · iexact HO
  iintro ⟨Hs, Hit, Ho, HO⟩
  isplitl [Hv Ha Hs Hd HT]
  · isplitl [Hv Ha Hs]
    · isplitl [Hv]; · iexact Hv
      isplitl [Ha]; · iexact Ha
      iexact Hs
    isplitl [Hd]; · iexact Hd
    iexact HT
  isplitl [HO]; · iexists W; iexact HO
  isplitl [Hin]; · iexact Hin
  isplitl [Hit]; · iexists d; iexact Hit
  iexists _
  isplitr; swap
  · iexact Ho
  · ipureintro; exact rel_high m c t d

theorem obl (t : Fin cfg0.N) : Obl m c t := by
  by_cases h0 : t.val = 0
  · exact oblA m c t h0
  by_cases h7 : t.val < 7
  · exact oblB m c t h0 h7
  by_cases h8 : t.val = 7
  · exact oblC m c t h8
  · exact oblD m c t (by omega)

end Cert.KernelIdeal.Hand

end
-- ==== Proof.IdealRun.lean ====
module

public import proofs.«01_k».proof.Proof.IdealObl

/-!
The launch: the kernel body meets the pipeline library's obligation, and @main runs to its end.

The token array is both a window's array and what the gather copies from, so the region is entered with its buffer
split in two halves: one goes to the window, the other, cut into sixteen read tokens, to the body's invariant.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body obligation -/

theorem body_rel (c : Dev nD) : BodyObligationRel (dats m 0 c) (defs₀ (F := F)) Variants.none () Set.univ mark (rel m c) := fun t => by
  rw [bigSep_W0, bigSep_W0]
  have hpre : iprop(Phi m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ Y, ⌜((dats m 0 c).toRRel mark (rel m c)).Finds 11 t Y⌝ ∗ owns (c : Thread nD τ) (st0_11 t) fullShare Y))
      ⊢ iprop(Phi m c t.val ∗ (∃ W, owes (c : Thread nD τ) 0 W) ∗ ins m c t
      ∗ (∃ d, owns (c : Thread nD τ) (st0_10 t) fullShare (item m c t d)) ∗ (∃ X, owns (c : Thread nD τ) (st0_11 t) fullShare X)) := by
    simp only [found_0, found_1, found_2, found_3, found_4, found_5, found_6, found_7, found_8, found_9, found_10]
    unfold Dat.owesAt Pipeline.owesWithin ins
    iintro ⟨HP, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, ⟨%Y, -, H11⟩⟩
    isplitl [HP]; · iexact HP
    isplitl [HO]; · iexists W; iexact HO
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    iexists Y; iexact H11
  have hpost : ∀ _ : PUnit, iprop(Phi m c (t.val + 1) ∗ (∃ W, owes (c : Thread nD τ) 0 W) ∗ ins m c t
        ∗ (∃ d, owns (c : Thread nD τ) (st0_10 t) fullShare (item m c t d))
        ∗ (∃ X, ⌜rel m c 11 t X⌝ ∗ owns (c : Thread nD τ) (st0_11 t) fullShare X))
      ⊢ iprop(Phi m c (t.val + 1) ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t)
        ∗ (∃ d, owns (c : Thread nD τ) (st0_10 t) fullShare ((cfg0.win 10).fill (cfg0.grid.coords t) d ((cfg0.win 10).cut (cfg0.grid.coords t) ((dats m 0 c).after 10 t))))
        ∗ (∃ X, ⌜rel m c 11 t X⌝ ∗ owns (c : Thread nD τ) (st0_11 t) fullShare X)) := fun _ => by
    rw [show (cfg0.win 10).cut (cfg0.grid.coords t) ((dats m 0 c).after 10 t) = iblk m c 10 t from (cfg0.win 10).cut_fill _ _ _]
    unfold Dat.owesAt Pipeline.owesWithin ins
    iintro ⟨HP, ⟨%W, HO⟩, ⟨H0, H1, H2, H3, H4, H5, H6, H7, H8, H9⟩, H10, H11⟩
    isplitl [HP]; · iexact HP
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact hpre.trans ((obl m c t).trans (wp_mono _ _ _ hpost))

/-- The data with the output held to its relation. -/
abbrev rdats (p : Fin 1) (c : Dev nD) : RDat τ (Elt F) Unit ℕ (Pipeline.UD sig nD τ) ℕ cfg0 c := (dats m p c).toRRel mark (rel m c)

/-! ## The segments -/

/-- The kernel's own semaphore: the gather's. -/
abbrev osem : Fin 1 → SemLoc sig := fun _ => SemLoc.dma 16

theorem osem_facts : Pipeline.OwnSemFacts spec0 osem := by decide

/-- Where the library's protocol lives among the launch's resources. -/
abbrev EP : Emb (UR sig nD τ) (MT nD τ sig Unit (Elt F) ℕ (Pipeline.UD sig nD τ) ℕ) := embL

/-- The launch element: the library's at the staging cells, no counter. -/
def u0 : Pipeline.UD sig nD τ := (initOf (Pipeline.cells cfgs cellOf_inj) (Pipeline.launchToks cfgs cellOf_inj), 1)

theorem ownSems_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 16) 0 :=
  Pipeline.ownSems0_eq_of_list c osem [0] (by decide) (by decide)

/-- The TensorCore's buffers that outlive a region. -/
def hostRefs : Finset (DevRef τ sig) := (StableHlo.tcRefs τ sig).filter fun b => ¬ b.isScoped

theorem bufs_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What a core owes rides beside the buffers. -/
abbrev Ow (c : Dev nD) : sProp 𝕄 := iprop(∃ W, owes (c : Thread nD τ) (0 : CellTallies nD τ sig Unit) W)

/-- The host operations before the region. -/
def seg0 : Pipeline.HostSeg (Name := ℕ) (U := Pipeline.UD sig nD τ) (pcfgs (F := F)) defs₀ Variants.none L lv :=
  Pipeline.HostSeg.ofOps _ _ _ _ _ hostRefs hostOps0 (fun op h => sub_hostRefs op ((List.forall_iff_forall_mem.mp hostOps0_sub) op h))
    (List.forall_iff_forall_mem.mp hostOps0_fresh) (fun c b => m (c, b)) Ow

theorem toks_eq (c : Dev nD) : bigSep Finset.univ (fun i : Fin 16 => ((((c : Thread nD τ).loc main_arg0)
    ↦{Transfers.shareTok fullShare.right 16 i} V m c main_arg0) : sProp 𝕄)) = toks m c :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) _

/-- The token array's buffer in two halves: the window's, and the read tokens the gather lends. -/
theorem token_split (c : Dev nD) : ((((c : Thread nD τ).loc main_arg0) ↦{fullShare} V m c main_arg0) : sProp 𝕄)
    ⊢ iprop((((c : Thread nD τ).loc main_arg0) ↦{fullShare.left} V m c main_arg0) ∗ toks m c) := by
  iintro H
  ihave H := (Transfers.pointsTo_toks_range fullShare 1).1 $$ H
  rw [Finset.range_one, BI.bigSep_singleton]
  icases H with ⟨Hl, Hr⟩
  isplitl [Hl]; · iexact Hl
  rw [show Transfers.shareTokN fullShare 0 = fullShare.right from rfl]
  ihave Hr := (Transfers.pointsTo_toks_split fullShare.right 16) $$ Hr
  rw [toks_eq]
  icases Hr with ⟨-, Hr⟩
  iexact Hr

theorem share_eq (c : Dev nD) (w : Fin cfg0.W) : (rdats m 0 c).share w = shr w := by
  unfold RDat.share
  split
  · revert w; decide
  · rfl

/-- The buffers at the region's entry: the windows' arrays at their shares, the gather's tokens, the rest. -/
theorem entry_split (c : Dev nD) : (unscopedBufs c (V m c) : sProp 𝕄)
    ⊢ iprop((rdats m 0 c).arrays (rdats m 0 c).A ∗ toks m c ∗ Pipeline.unscopedRest spec0 c (V m c)) := by
  rw [show (rdats m 0 c).arrays (rdats m 0 c).A
      = bigSep Finset.univ fun w => (((c : Thread nD τ).loc (Pipeline.arrRef spec0 w)) ↦{shr w} V m c (Pipeline.arrRef spec0 w) : sProp 𝕄) from by
    unfold RDat.arrays
    exact bigSep_congr fun w _ => by rw [(launch0.arr_whole w).set_eq_univ, share_eq]; rfl]
  rw [Pipeline.unscopedBufs_split cfgs 0 launch0.win.arr_unscoped launch0.win.arr_inj c (V m c), bigSep_W0, bigSep_W0]
  iintro ⟨⟨H0, H1, H2, H3, H4, H5, H6, H7, H8, H9, H10, H11⟩, HZ⟩
  ihave H3 := (token_split m c) $$ H3
  icases H3 with ⟨H3, HT⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HT]; · iexact HT
  iexact HZ

/-- What the region leaves for the end: its arrays, and the buffers it has no part in. -/
abbrev Tend (c : Dev nD) : sProp 𝕄 :=
  iprop((rdats m 0 c).arraysAt cfg0.N ∗ Pipeline.unscopedRest spec0 c (V m c))

set_option backward.isDefEq.respectTransparency.types false in
/-- The region. -/
def reg0 : RDat.RegionSeg (pcfgs (F := F)) adm (rdats m) () defs₀ Variants.none L lv 0 where
  win := launch0.win.to₀
  block_pos := launch0.block_pos
  stage_whole := launch0.stage_whole
  K := Fin 1
  osem := osem
  ho := osem_facts
  hbody c := (body_rel m c).toRRel
  hwaits := RDat.hwaits_of_owed_zero _ _ _ _ L lv 0 fun _ _ => rfl
  pre c := iprop(StableHlo.held (c : Thread nD τ) hostRefs (StableHlo.after hostOps0 (fun b => m (c, b))) ∗ Ow c)
  post c := iprop(Tend m c ∗ Ow c)
  X c := iprop(toks m c ∗ semVal ((c : Thread nD τ), SemLoc.dma 16) 0)
  Y c := iprop(emp)
  Z c := Pipeline.unscopedRest spec0 c (V m c)
  hentry c := by
    rw [show StableHlo.held (c : Thread nD τ) hostRefs (StableHlo.after hostOps0 (fun b => m (c, b))) = unscopedBufs c (V m c) from (bufs_held c _).symm,
      ownSems_eq]
    iintro ⟨⟨Hub, HO⟩, Hos, -⟩
    ihave H := (entry_split m c) $$ Hub
    icases H with ⟨Ha, HT, HZ⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [HT Hos]
    · isplitl [HT] <;> iassumption
    iexact HZ
  hin c := by
    rw [show (rdats m 0 c).Φ 0 = Phi m c 0 from rfl, scopedRest0_eq]
    unfold Phi
    rw [scr_zero]
    iintro ⟨⟨HT, Hos⟩, -, ⟨%fa, Ha⟩, ⟨%fs, Hs⟩, ⟨%fv, Hv⟩⟩
    isplitl [Ha Hs Hv]
    · isplitl [Hv]
      · iexists scVn.view.read (Elt F) fv
        iapply (own_close c scVn (Memref.isWhole_whole _) _ fv rfl) $$ Hv
      isplitl [Ha]
      · iexists scAcc.view.read (Elt F) fa
        iapply (own_close c scAcc (Memref.isWhole_whole _) _ fa rfl) $$ Ha
      iexists scSh.view.read (Elt F) fs
      iapply (own_close c scSh (Memref.isWhole_whole _) _ fs rfl) $$ Hs
    isplitl [Hos]; · iexact Hos
    iexact HT
  hout c := by
    rw [show (rdats m 0 c).Φ (Fin.last cfg0.N) = Phi m c 18 from rfl, scopedRest0_eq, ownSems_eq]
    unfold Phi
    rw [scr_high m c 18 (by decide)]
    iintro ⟨⟨Hv, Ha, Hs⟩, Hos, -⟩
    isplitr; · iempintro
    isplitl [Hos]; · iexact Hos
    ihave Hv := own_open c scVn (Memref.isWhole_whole _) _ $$ Hv
    ihave Ha := own_open c scAcc (Memref.isWhole_whole _) _ $$ Ha
    ihave Hs := own_open c scSh (Memref.isWhole_whole _) _ $$ Hs
    icases Hv with ⟨%fv, -, Hv⟩
    icases Ha with ⟨%fa, -, Ha⟩
    icases Hs with ⟨%fs, -, Hs⟩
    isplitl [Ha]; · iexists fa; iexact Ha
    isplitl [Hs]; · iexists fs; iexact Hs
    iexists fv; iexact Hv
  hexit c := by
    iintro ⟨Ha, HO, -, HZ⟩
    imodintro
    isplitr [HO]
    · isplitl [Ha] <;> iassumption
    · unfold RDat.owesAt Pipeline.owesWithin
      icases HO with ⟨%W, -, HO⟩; iexists W; iexact HO

/-- @main as its two segments. -/
abbrev segs : List (RDat.Seg (pcfgs (F := F)) adm (rdats m) () defs₀ Variants.none L lv) := [.host (seg0 m), .region (reg0 m)]

theorem main_run (c : Dev nD) : main (F := F) c = RDat.Seg.run (segs m) := by
  simp only [RDat.Seg.run]
  rw [show (seg0 m).prog = StableHlo.seq hostOps0 from rfl]
  rfl

/-- What the end says of core `c`'s memory: every array in the data's relation to what it was, every buffer no window
    stages as the region found it. -/
def EndAt (c : Dev nD) (s : MemSt nD τ sig (Elt F)) : Prop :=
  (∀ w, (rdats m 0 c).ArrAt w cfg0.N (s.mem ((cfg0.win w).arr.view.loc (c : Thread nD τ))))
    ∧ ∀ b ∈ Pipeline.restRefs sig spec0, s.mem ((c : Thread nD τ).loc b) = V m c b

set_option backward.isDefEq.respectTransparency.types false in
/-- From any memory whose counters are zero every run of @main ends, in a memory as `EndAt` says, with every counter at
    zero. -/
theorem run_main : θ_run defs (onTc (τ := τ) (main (F := F))) ⟨m, fun _ => 0, ρ⟩ (fun r => (∀ c, EndAt m c r.2) ∧ r.2.sem = fun _ => 0) :=
  RDat.θ_run_regions_kit_sems (pcfgs (F := F)) adm (rdats m) () cellOf_inj EP defs₀ Variants.none L lv m ρ main (segs m)
    (fun c Q => by rw [main_run m c])
    (by simp only [RDat.Seg.pipes_host, RDat.Seg.pipes_region, RDat.Seg.pipes_nil]; decide) (O₀ := 0) (hL := fun _ _ => rfl) (G := fun _ => iprop(emp)) (u₀ := u0)
    (hu₀ := by
      unfold u0
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (fun b => m (c, b)) ∗ Ow c)) (Tₙ := Tend m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) hostRefs (fun b => m (c, b)) from bufs_held c (fun b => m (c, b))]
      iintro ⟨⟨Hh, -, HO, -, -, -⟩, -⟩
      imodintro
      isplitl [Hh]; · iexact Hh
      iexists ∅; iexact HO)
    (QY := EndAt m)
    (hfin := fun c s' => by
      unfold EndAt
      iintro ⟨⟨Ha, HZ⟩, HSI⟩
      ihave Hr := (RDat.arrays_read (pcfgs (F := F)) adm (rdats m) launch0.arr_whole c _ s') $$ [Ha HSI]
      · isplitl [Ha] <;> iassumption
      icases Hr with ⟨%ha, HSI⟩
      unfold Pipeline.unscopedRest
      ihave Hz := (pointsTo_read_all (Pipeline.restRefs sig spec0) (fun b => (c : Thread nD τ).loc b) (V m c) s') $$ [HZ HSI]
      · isplitl [HZ] <;> iassumption
      icases Hz with ⟨%hz, HSI⟩
      imodintro
      isplitr; · ipureintro; exact ⟨ha, hz⟩
      iexact HSI)
    (hQ := fun _ h hz => ⟨h, funext fun g => hz g (.inr (by revert g; decide))⟩)

end Cert.KernelIdeal.Hand

end
-- ==== Proof.IdealEnds.lean ====
module

public import proofs.«01_k».proof.Proof.IdealRun

/-!
The frame: no run changes an argument array, and every counter ends at zero.
-/

@[expose] public section

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat RDat)

variable {F : FTy → Type} [FloatOps F]
variable (m : (ℓ : Loc nD τ sig) → Buf (Elt F) ℓ) (ρ : Dev nD → PrngReg)

/-- An input window's array ends as the host operations left it; if that is what the memory held, so it ends. -/
theorem kept (c : Dev nD) (s : MemSt nD τ sig (Elt F)) (h : EndAt m c s) (w : Fin cfg0.W) (hin : (cfg0.win w).isOut = false)
    {X} (e : V m c (Pipeline.arrRef spec0 w) = X) : s.mem ((cfg0.win w).arr.view.loc (c : Thread nD τ)) = X := by
  have h1 := h.1 w
  rw [RDat.ArrAt_in _ w hin] at h1
  exact h1.trans e

/-- Every argument ends as the memory held it. -/
theorem args_kept (c : Dev nD) (s : MemSt nD τ sig (Elt F)) (h : EndAt m c s) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10) :=
  ⟨kept m c _ h 3 rfl (V_main_arg0 m c),
      (h.2 main_arg1 (Pipeline.mem_restRefs_of main_arg1 (by decide) (by decide))).trans (V_main_arg1 m c),
      kept m c _ h 10 rfl (V_main_arg2 m c),
      kept m c _ h 4 rfl (V_main_arg3 m c),
      (h.2 main_arg4 (Pipeline.mem_restRefs_of main_arg4 (by decide) (by decide))).trans (V_main_arg4 m c),
      kept m c _ h 5 rfl (V_main_arg5 m c),
      (h.2 main_arg6 (Pipeline.mem_restRefs_of main_arg6 (by decide) (by decide))).trans (V_main_arg6 m c),
      (h.2 main_arg7 (Pipeline.mem_restRefs_of main_arg7 (by decide) (by decide))).trans (V_main_arg7 m c),
      kept m c _ h 0 rfl (V_main_arg8 m c),
      kept m c _ h 8 rfl (V_main_arg9 m c),
      (h.2 main_arg10 (Pipeline.mem_restRefs_of main_arg10 (by decide) (by decide))).trans (V_main_arg10 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => args_kept m c r.2 (h.1 c), h.2⟩) (run_main m ρ)

end Cert.KernelIdeal.Hand

end
-- ==== Proof.IdealIn.lean ====
module

public import proofs.«01_k».proof.Proof.IdealData
public import Idealize.ShloMosaic.Lib.Pointwise
public import Idealize.ShloMosaic.Lib.Claim
public import Idealize.ShloMosaic.Lib.Pipeline.ValueKit

/-!
The blocks the kernel body finds in its input windows, as entries of the argument arrays.
-/

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

theorem winIdx0 : ∀ t : Fin cfg0.N, (cfg0.win 0).index t = ![0] := by decide +kernel
theorem winIdx1 : ∀ t : Fin cfg0.N, (cfg0.win 1).index t = ![0, 0] := by decide +kernel
theorem winIdx2 : ∀ t : Fin cfg0.N, t.val < 8 → (cfg0.win 2).index t = ![t.val, 0, 0] := by decide +kernel
theorem winIdx3 : ∀ t : Fin cfg0.N, t.val < 8 → (cfg0.win 3).index t = ![t.val, 0] := by decide +kernel
theorem winIdx4 : ∀ t : Fin cfg0.N, (cfg0.win 4).index t = ![0, 0] := by decide +kernel
theorem winIdx5 : ∀ t : Fin cfg0.N, (cfg0.win 5).index t = ![0, 0] := by decide +kernel
theorem winIdx6 : ∀ t : Fin cfg0.N, (cfg0.win 6).index t = ![0, 0] := by decide +kernel
theorem winIdx7 : ∀ t : Fin cfg0.N, (cfg0.win 7).index t = ![0, 0] := by decide +kernel
theorem winIdx8 : ∀ t : Fin cfg0.N, (cfg0.win 8).index t = ![0, 0] := by decide +kernel
theorem winIdx9 : ∀ t : Fin cfg0.N, (cfg0.win 9).index t = ![0, 0] := by decide +kernel
theorem winIdx10 : ∀ t : Fin cfg0.N, 8 ≤ t.val → (cfg0.win 10).index t = ![t.val - 8, 0] := by decide +kernel
theorem winIdx11 : ∀ t : Fin cfg0.N, 8 ≤ t.val → (cfg0.win 11).index t = ![0, t.val - 8] := by decide +kernel

theorem blk3_at (t : Fin cfg0.N) (h : t.val < 8) (r : Fin 4096) (k : Fin 256) :
    (iblk m c 3 t : Vec F S4096x256 .f32) (ix2 r k) = m ((c : Thread nD τ).loc main_arg0) (ix2 ⟨4096 * t.val + r.val, by omega⟩ k) := by
  have e := winIdx3 t h
  blk_ext [iblk, V, e]

theorem blk2_at (t : Fin cfg0.N) (h : t.val < 8) (r : Fin 4096) :
    (iblk m c 2 t : Vec F S1x1x4096 .i32) (ix3 0 0 r) = m ((c : Thread nD τ).loc main_arg1) (ix1 ⟨4096 * t.val + r.val, by omega⟩) := by
  have e := winIdx2 t h
  blk_point [iblk, V, e]

theorem blk4_at (t : Fin cfg0.N) (j k : Fin 256) :
    (iblk m c 4 t : Vec F S256x256 .f32) (ix2 j k) = m ((c : Thread nD τ).loc main_arg3) (ix2 j k) := by
  blk_point [iblk, V, winIdx4 t]

theorem blk5_at (t : Fin cfg0.N) (j k : Fin 256) :
    (iblk m c 5 t : Vec F S256x256 .f32) (ix2 j k) = m ((c : Thread nD τ).loc main_arg5) (ix2 j k) := by
  blk_point [iblk, V, winIdx5 t]

theorem blk6_at (t : Fin cfg0.N) (s : Fin 16) (k : Fin 256) :
    (iblk m c 6 t : Vec F S16x256 .f32) (ix2 s k) = m ((c : Thread nD τ).loc main_arg7) (ix2 0 k) := by
  blk_point [iblk, V, winIdx6 t]

theorem blk7_at (m : (ℓ : Loc nD τ sig) → Buf (Elt Ideal) ℓ) (t : Fin cfg0.N) (k : Fin 256) :
    (iblk m c 7 t : Vec Ideal S1x256 .f32) (ix2 0 k) =
      @HAdd.hAdd EReal EReal EReal _ (m ((c : Thread nD τ).loc main_arg4) (ix1 k)) (m ((c : Thread nD τ).loc main_arg6) (ix1 k)) := by
  blk_simp [iblk, V, winIdx7 t]
  entry_read
  pointwise
  refine congrArg₂ (@HAdd.hAdd EReal EReal EReal _) ?_ ?_ <;> blk_ext [winIdx7 t]

theorem blk8_at (t : Fin cfg0.N) (j : Fin 256) (k : Fin 512) :
    (iblk m c 8 t : Vec F S256x512 .f32) (ix2 j k) = m ((c : Thread nD τ).loc main_arg9) (ix2 j k) := by
  blk_point [iblk, V, winIdx8 t]

theorem blk9_at (t : Fin cfg0.N) (k : Fin 256) :
    (iblk m c 9 t : Vec F S1x256 .f32) (ix2 0 k) = m ((c : Thread nD τ).loc main_arg10) (ix1 k) := by
  blk_point [iblk, V, winIdx9 t]

theorem blk1_at (t : Fin cfg0.N) (r : Fin 256) (k : Fin 128) :
    (iblk m c 1 t : Vec F S256x128 .i32) (ix2 r k) = m ((c : Thread nD τ).loc main_arg1) (ix1 ⟨128 * r.val + k.val, by omega⟩) := by
  blk_point [iblk, V, winIdx1 t]

theorem blk0_at (t : Fin cfg0.N) :
    (iblk m c 0 t : Vec F S1 .f32) q0 = m ((c : Thread nD τ).loc main_arg8) (ix1 0) := by
  blk_point [iblk, V, winIdx0 t]

theorem pay5_eq (X : Vec F S256x128 .i32) : k0_pay5 X = X := by
  unfold k0_pay5
  exact shapeCast_self _ _

theorem VN_at (s : Fin 16) (k : Fin 256) :
    VN m c (ix2 s k) = m ((c : Thread nD τ).loc main_arg0) (ix2 ⟨rowN (iblk m c 1 (pnt 0 (by decide))) (BitVec.ofNat 32 s.val), rowN_lt _ _⟩ k) := by
  unfold VN vnOf seIdx
  entry_read
  refine congrArg (m ((c : Thread nD τ).loc main_arg0)) (funext fun a => ?_)
  match a with
  | ⟨0, _⟩ => exact Fin.ext (congrArg (fun Y => rowN Y (BitVec.ofNat 32 s.val)) (pay5_eq _))
  | ⟨1, _⟩ => rfl

end Cert.KernelIdeal.Hand

end
-- ==== Proof.Score.lean ====
module

public import Idealize.ShloMosaic.PureOps.Ideal.Laws

/-!
The mathematics of the scorer over the extended reals, in plain indices: what both programs compute. `b` numbers the
session of every token, `se` is the token embeddings.

A session's last token stands at the number of tokens of its session and of all sessions below, less one. The attention
score of a token in its session is `alpha`; a session's vector `shv` is a linear map of its last token next to the
weighted sum of its tokens; a score is the inner product of a session's vector with an item.
-/

@[expose] public section

noncomputable section

namespace Cert.Score

open Idealize.ShloMosaic
open scoped BigOperators

/-- The logistic function, as the reference writes it. -/
def sigma (x : EReal) : EReal := Ideal.div 1 (1 + Ideal.exp (-x))

section
variable (b : Fin 32768 → BitVec 32) (se : Fin 32768 → Fin 256 → EReal) (iw : Fin 100000 → Fin 256 → EReal)
  (W1 : Fin 256 → Fin 256 → EReal) (b1 : Fin 256 → EReal) (W2 : Fin 256 → Fin 256 → EReal) (b2 : Fin 256 → EReal)
  (Wq : Fin 256 → EReal) (bq : EReal) (W3 : Fin 256 → Fin 512 → EReal) (b3 : Fin 256 → EReal)

/-- How many tokens have session number at most `s`, read signed. -/
def cnt (s : ℕ) : ℕ := (Finset.univ.filter fun t : Fin 32768 => (b t).sle (BitVec.ofNat 32 s) = true).card

theorem cnt_le (s : ℕ) : cnt b s ≤ 32768 := (Finset.card_le_univ _).trans (le_of_eq (Fintype.card_fin _))

/-- Where the last token of session `s` stands. -/
def last (s : ℕ) : Fin 32768 := ⟨cnt b s - 1, by have := cnt_le b s; omega⟩

/-- The last token of session `s`. -/
def vn (s : ℕ) (k : Fin 256) : EReal := se (last b s) k

/-- The gate of token `t` as a token of session `s`. -/
def gate (s : ℕ) (t : Fin 32768) (j : Fin 256) : EReal :=
  sigma ((∑ k, se t k * W2 j k) + ((∑ k, vn b se s k * W1 j k) + (b1 j + b2 j)))

/-- The attention score of token `t` as a token of session `s`. -/
def alpha (s : ℕ) (t : Fin 32768) : EReal := (∑ j, gate b se W1 b1 W2 b2 s t j * Wq j) + bq

/-- What token `t` adds to the sum of session `s`. -/
def part (s : ℕ) (t : Fin 32768) (j : Fin 256) : EReal :=
  if b t = BitVec.ofNat 32 s then alpha b se W1 b1 W2 b2 Wq bq s t * se t j else 0

/-- The weighted sum of the tokens of session `s`. -/
def sums (s : ℕ) (j : Fin 256) : EReal := ∑ t, part b se W1 b1 W2 b2 Wq bq s t j

/-- The last token of session `s` next to its weighted sum. -/
def both (s : ℕ) (k : Fin 512) : EReal :=
  if h : k.val < 256 then vn b se s ⟨k.val, h⟩ else sums b se W1 b1 W2 b2 Wq bq s ⟨k.val - 256, by omega⟩

/-- The vector of session `s`. -/
def shv (s : ℕ) (j : Fin 256) : EReal := (∑ k, both b se W1 b1 W2 b2 Wq bq s k * W3 j k) + b3 j

/-- The score of item `v` in session `s`. -/
def score (s : ℕ) (v : Fin 100000) : EReal := ∑ k, shv b se W1 b1 W2 b2 Wq bq W3 b3 s k * iw v k

end

/-- The pattern of one half. -/
theorem half_eq : Ideal.ofBits .f32 0x3F000000#32 = ((1 / 2 : ℝ) : EReal) := by
  show Ideal.ieee 8 23 (0x3F000000#32 : BitVec 32) = _
  unfold Ideal.ieee
  have e1 : (BitVec.extractLsb' 23 8 (0x3F000000#32 : BitVec 32)).toNat = 126 := by decide
  have e2 : (BitVec.extractLsb' 0 23 (0x3F000000#32 : BitVec 32)).toNat = 0 := by decide
  have e3 : (BitVec.extractLsb' (8 + 23) 1 (0x3F000000#32 : BitVec 32) == 1#1) = false := by decide
  simp only [e1, e2, e3]
  norm_num

/-- The logistic function by way of the hyperbolic tangent of half the argument, at the infinities too. -/
theorem half_tanh (x : EReal) :
    ((1 / 2 : ℝ) : EReal) + ((1 / 2 : ℝ) : EReal) * Ideal.tanh (((1 / 2 : ℝ) : EReal) * x) = sigma x := by
  have h : (0 : ℝ) < 1 / 2 := by norm_num
  unfold sigma
  induction x with
  | bot =>
    rw [EReal.coe_mul_bot_of_pos h, Ideal.tanh_bot, EReal.neg_bot]
    show _ = Ideal.div 1 (1 + ⊤)
    rw [EReal.add_top_of_ne_bot (by decide)]
    unfold Ideal.div
    rw [if_neg (by decide), EReal.inv_top, mul_zero, mul_neg, mul_one, ← EReal.coe_neg, ← EReal.coe_add]
    norm_num
  | top =>
    rw [EReal.coe_mul_top_of_pos h, EReal.neg_top]
    show _ + _ * 1 = Ideal.div 1 (1 + 0)
    rw [add_zero, mul_one, ← EReal.coe_add]
    unfold Ideal.div
    rw [if_neg one_ne_zero, ← EReal.coe_one, ← EReal.coe_inv, ← EReal.coe_mul]
    norm_num
  | coe r =>
    rw [← EReal.coe_mul, ← EReal.coe_neg]
    show _ + _ * ((Real.tanh (1 / 2 * r) : ℝ) : EReal) = Ideal.div 1 (1 + ((Real.exp (-r) : ℝ) : EReal))
    have hp : (0 : ℝ) < 1 + Real.exp (-r) := by positivity
    rw [← EReal.coe_one, ← EReal.coe_add, Ideal.div_coe hp.ne', ← EReal.coe_mul, ← EReal.coe_mul, ← EReal.coe_add]
    refine congrArg _ ?_
    have ht : Real.tanh (1 / 2 * r) = (1 - Real.exp (-r)) / (1 + Real.exp (-r)) := by
      rw [Real.tanh_eq_sinh_div_cosh, Real.sinh_eq, Real.cosh_eq]
      have e : Real.exp (-r) = Real.exp (-(1 / 2 * r)) * Real.exp (-(1 / 2 * r)) := by rw [← Real.exp_add]; congr 1; ring
      have e' : Real.exp (1 / 2 * r) * Real.exp (-(1 / 2 * r)) = 1 := by rw [← Real.exp_add]; simp
      have hq : (0 : ℝ) < Real.exp (-(1 / 2 * r)) := Real.exp_pos _
      have hq' : (0 : ℝ) < Real.exp (1 / 2 * r) := Real.exp_pos _
      rw [div_eq_div_iff (by positivity) hp.ne', e]
      generalize Real.exp (1 / 2 * r) = u at *
      generalize Real.exp (-(1 / 2 * r)) = w at *
      linear_combination w * e'
    rw [ht]
    field_simp
    ring

end Cert.Score

end
-- ==== Proof.IdealPay.lean ====
module

public import proofs.«01_k».proof.Proof.IdealBody
public import proofs.«01_k».proof.Proof.Score
public import Idealize.ShloMosaic.Lib.Pointwise

/-!
The arithmetic of the kernel body read at an index, over the extended reals.
-/

@[expose] public section

set_option maxRecDepth 16384

noncomputable section

namespace Cert.KernelIdeal.Hand

open Cert.KernelIdeal Cert.KernelIdeal.Gen
open Idealize.ShloMosaic
open scoped BigOperators

/-- Whether token `r` of a block belongs to session `s`, as a number. -/
def hot (X : Vec Ideal S1x1x4096 .i32) (s : Fin 16) (r : Fin 4096) : EReal :=
  if X (ix3 0 0 r) = BitVec.ofNat 32 s.val then 1 else 0

theorem pay22_at (X : Vec Ideal S1x1x4096 .i32) (s : Fin 16) (r : Fin 4096) : k0_pay22 X (ix2 s r) = hot X s r := by
  pointwise [k0_pay22]
  unfold hot
  show ((BitVec.toInt (BitVec.setWidth 32 (BitVec.ofBool (X (ix3 0 0 r) == BitVec.ofNat 32 s.val))) : ℝ) : EReal) = _
  by_cases h : X (ix3 0 0 r) = BitVec.ofNat 32 s.val
  · rw [if_pos h, beq_iff_eq.mpr h]
    simp
  · rw [if_neg h, beq_eq_false_iff_ne.mpr h]
    simp

theorem pay1_at (i : S16x256.Idx) : k0_pay1 (F := Ideal) i = 0 := by
  pointwise [k0_pay1]

theorem pay3_at (A B : Vec Ideal S16x256 .f32) (W : Vec Ideal S256x512 .f32) (c : Vec Ideal S1x256 .f32) (s : Fin 16) (j : Fin 256) :
    k0_pay3 A B W c (ix2 s j) = (∑ k : Fin 512, (if h : k.val < 256 then A (ix2 s ⟨k.val, h⟩) else B (ix2 s ⟨k.val - 256, by omega⟩)) * W (ix2 j k))
      + c (ix2 0 j) := by
  pointwise [k0_pay3]

theorem pay4_at (A : Vec Ideal S16x256 .f32) (B : Vec Ideal S10240x256 .f32) (s : Fin 16) (v : Fin 10240) :
    k0_pay4 A B (ix2 s v) = ∑ k : Fin 256, A (ix2 s k) * B (ix2 v k) := by
  pointwise [k0_pay4]

theorem pay2_at (E : Vec Ideal S4096x256 .f32) (P Q : FVec Ideal S16x4096 .f32) (A : Vec Ideal S16x256 .f32) (s : Fin 16) (j : Fin 256) :
    k0_pay2 E P Q A (ix2 s j) = A (ix2 s j) + ∑ r : Fin 4096, (P (ix2 s r) * Q (ix2 s r)) * E (ix2 r j) := by
  pointwise [k0_pay2]

theorem pay23_at (X : Vec Ideal S1x1x4096 .i32) (s : Fin 16) (r : Fin 4096) : k0_pay23 X (ix2 s r) = k0_pay22 X (ix2 s r) := by
  pointwise [k0_pay23]

theorem pay24_at (E : Vec Ideal S4096x256 .f32) (X : Vec Ideal S1x1x4096 .i32) (Xv : Vec Ideal S16x256 .f32) (X6 : Vec Ideal S256x256 .f32)
    (X9 : Vec Ideal S1x256 .f32) (X7 : Vec Ideal S256x256 .f32) (X8 : Vec Ideal S16x256 .f32) (q : Elt Ideal .f32) (s : Fin 16) (r : Fin 4096) :
    k0_pay24 E X Xv X6 X9 X7 X8 q (ix2 s r) = (∑ j : Fin 256, X8 (ix2 s j) * (Ideal.ofBits .f32 0x3F000000#32 + Ideal.ofBits .f32 0x3F000000#32
      * Ideal.tanh (Ideal.ofBits .f32 0x3F000000#32 * ((∑ k : Fin 256, E (ix2 r k) * X7 (ix2 j k))
        + ∑ i : Fin 16, k0_pay22 X (ix2 i r) * ((∑ k : Fin 256, Xv (ix2 i k) * X6 (ix2 j k)) + X9 (ix2 0 j)))))) + q := by
  pointwise [k0_pay24]

end Cert.KernelIdeal.Hand

end
-- ==== Proof.IdealVal.lean ====
module

public import proofs.«01_k».proof.Proof.IdealIn
public import proofs.«01_k».proof.Proof.IdealPay

/-!
What the kernel's scratch buffers hold, as the formulas of the scorer over the extended reals: the last tokens, the
weighted sums after the token blocks, and the session vectors.
-/

@[expose] public section

set_option maxRecDepth 16384

noncomputable section

namespace Cert.KernelIdeal.Hand

open Cert.KernelIdeal Cert.KernelIdeal.Gen
open Idealize.ShloMosaic Idealize.ShloMosaic.TcCoe
open scoped BigOperators

/-! ## One block of tokens -/

/-- Two session numbers with the same word are the same. -/
theorem word_inj (s i : Fin 16) (h : BitVec.ofNat 32 s.val = BitVec.ofNat 32 i.val) : i = s := by
  have e := congrArg BitVec.toNat h
  rw [BitVec.toNat_ofNat, BitVec.toNat_ofNat, Nat.mod_eq_of_lt (by omega), Nat.mod_eq_of_lt (by omega)] at e
  exact Fin.ext e.symm

/-- The rows of the last tokens that a token of session `s` picks out are that session's. -/
theorem hot_sum (X : Vec Ideal S1x1x4096 .i32) (s : Fin 16) (r : Fin 4096) (h : X (ix3 0 0 r) = BitVec.ofNat 32 s.val) (Y : Fin 16 → EReal) :
    ∑ i : Fin 16, hot X i r * Y i = Y s := by
  rw [Finset.sum_eq_single s]
  · unfold hot
    rw [if_pos h, one_mul]
  · intro i _ hi
    unfold hot
    rw [if_neg (fun e => hi (word_inj s i (h.symm.trans e))), zero_mul]
  · intro hs
    exact absurd (Finset.mem_univ s) hs

section Block

variable (b : Fin 32768 → BitVec 32) (se : Fin 32768 → Fin 256 → EReal)
  (W1 : Fin 256 → Fin 256 → EReal) (b1 : Fin 256 → EReal) (W2 : Fin 256 → Fin 256 → EReal) (b2 : Fin 256 → EReal)
  (Wq : Fin 256 → EReal) (bq : EReal)

/-- A block whose tokens are `tok r` adds their parts to the running sums. -/
theorem accNext_at (tok : Fin 4096 → Fin 32768) (Xq : Vec Ideal S1 .f32) (Xb : Vec Ideal S1x1x4096 .i32) (Xe : Vec Ideal S4096x256 .f32)
    (X6 X7 : Vec Ideal S256x256 .f32) (X8 : Vec Ideal S16x256 .f32) (X9 : Vec Ideal S1x256 .f32) (Xv Xa : Vec Ideal S16x256 .f32)
    (hq : Xq q0 = bq) (hb : ∀ r, Xb (ix3 0 0 r) = b (tok r)) (he : ∀ r k, Xe (ix2 r k) = se (tok r) k)
    (h6 : ∀ j k, X6 (ix2 j k) = W1 j k) (h7 : ∀ j k, X7 (ix2 j k) = W2 j k) (h8 : ∀ s k, X8 (ix2 s k) = Wq k)
    (h9 : ∀ k, X9 (ix2 0 k) = b1 k + b2 k) (hv : ∀ (s : Fin 16) k, Xv (ix2 s k) = Score.vn b se s.val k) (s : Fin 16) (j : Fin 256) :
    accNext Xq Xb Xe X6 X7 X8 X9 Xv Xa (ix2 s j) = Xa (ix2 s j) + ∑ r, Score.part b se W1 b1 W2 b2 Wq bq s.val (tok r) j := by
  unfold accNext
  rw [pay2_at]
  refine congrArg (fun z : EReal => Xa (ix2 s j) + z) (Finset.sum_congr rfl fun r _ => ?_)
  rw [pay23_at, pay22_at, pay24_at]
  unfold Score.part
  by_cases h : b (tok r) = BitVec.ofNat 32 s.val
  · have h' : Xb (ix3 0 0 r) = BitVec.ofNat 32 s.val := (hb r).trans h
    have e1 : hot Xb s r = 1 := if_pos h'
    rw [if_pos h, e1, one_mul, he, hq]
    refine congrArg (fun z : EReal => z * se (tok r) j) ?_
    unfold Score.alpha
    refine congrArg (fun z : EReal => z + bq) (Finset.sum_congr rfl fun i _ => ?_)
    rw [h8, mul_comm]
    refine congrArg (fun z : EReal => z * Wq i) ?_
    unfold Score.gate
    rw [Score.half_eq, Score.half_tanh]
    refine congrArg Score.sigma ?_
    simp only [pay22_at]
    rw [hot_sum Xb s r h', h9]
    simp only [he, h7, h6, hv]
  · have e0 : hot Xb s r = 0 := if_neg (fun e => h ((hb r).symm.trans e))
    rw [if_neg h, e0, zero_mul, zero_mul]

/-- The sum over the eight blocks is the sum over the tokens. -/
theorem sum_blocks (f : Fin 32768 → EReal) :
    ∑ n : Fin 8, ∑ r : Fin 4096, f ⟨4096 * n.val + r.val, by omega⟩ = ∑ t, f t := by
  rw [← Finset.sum_product', Finset.univ_product_univ]
  refine Finset.sum_bij' (fun p _ => (⟨4096 * p.1.val + p.2.val, by omega⟩ : Fin 32768))
    (fun t _ => ((⟨t.val / 4096, by omega⟩ : Fin 8), (⟨t.val % 4096, by omega⟩ : Fin 4096))) ?_ ?_ ?_ ?_ ?_
  · intro p _; exact Finset.mem_univ _
  · intro t _; exact Finset.mem_univ _
  · intro p _
    refine Prod.ext (Fin.ext ?_) (Fin.ext ?_)
    · show (4096 * p.1.val + p.2.val) / 4096 = p.1.val
      omega
    · show (4096 * p.1.val + p.2.val) % 4096 = p.2.val
      omega
  · intro t _
    refine Fin.ext ?_
    show 4096 * (t.val / 4096) + t.val % 4096 = t.val
    omega
  · intro p _; rfl

end Block

/-! ## The arguments -/

variable (m : (ℓ : Loc nD τ sig) → Buf (Elt Ideal) ℓ) (c : Dev nD)

def aSe : Fin 32768 → Fin 256 → EReal := fun t k => m ((c : Thread nD τ).loc main_arg0) (ix2 t k)
def aB : Fin 32768 → BitVec 32 := fun t => m ((c : Thread nD τ).loc main_arg1) (ix1 t)
def aIw : Fin 100000 → Fin 256 → EReal := fun v k => m ((c : Thread nD τ).loc main_arg2) (ix2 v k)
def aW1 : Fin 256 → Fin 256 → EReal := fun j k => m ((c : Thread nD τ).loc main_arg3) (ix2 j k)
def aB1 : Fin 256 → EReal := fun k => m ((c : Thread nD τ).loc main_arg4) (ix1 k)
def aW2 : Fin 256 → Fin 256 → EReal := fun j k => m ((c : Thread nD τ).loc main_arg5) (ix2 j k)
def aB2 : Fin 256 → EReal := fun k => m ((c : Thread nD τ).loc main_arg6) (ix1 k)
def aWq : Fin 256 → EReal := fun k => m ((c : Thread nD τ).loc main_arg7) (ix2 0 k)
def aBq : EReal := m ((c : Thread nD τ).loc main_arg8) (ix1 0)
def aW3 : Fin 256 → Fin 512 → EReal := fun j k => m ((c : Thread nD τ).loc main_arg9) (ix2 j k)
def aB3 : Fin 256 → EReal := fun k => m ((c : Thread nD τ).loc main_arg10) (ix1 k)

/-- The count over the reshaped session numbers is the count over the tokens. -/
theorem cntN_of (X : IVec S256x128 32) (b : Fin 32768 → BitVec 32)
    (hX : ∀ (r : Fin 256) (k : Fin 128), X (ix2 r k) = b ⟨128 * r.val + k.val, by omega⟩) (s : ℕ) :
    cntN X (BitVec.ofNat 32 s) = Score.cnt b s := by
  unfold cntN Score.cnt
  refine Finset.card_bij' (fun (p : S256x128.Idx) _ => (⟨128 * (p 0).val + (p 1).val, ?_⟩ : Fin 32768))
    (fun t _ => (ix2 (⟨t.val / 128, by omega⟩ : Fin 256) (⟨t.val % 128, by omega⟩ : Fin 128) : S256x128.Idx)) ?_ ?_ ?_ ?_
  · have h0 : (p 0).val < 256 := (p 0).isLt
    have h1 : (p 1).val < 128 := (p 1).isLt
    omega
  · intro p hp
    rw [Finset.mem_filter] at hp ⊢
    have ep : p = ix2 (p 0) (p 1) := by
      funext a
      match a with
      | ⟨0, _⟩ => rfl
      | ⟨1, _⟩ => rfl
    refine ⟨Finset.mem_univ _, ?_⟩
    rw [← hX (p 0) (p 1)]
    exact ep ▸ hp.2
  · intro t ht
    rw [Finset.mem_filter] at ht ⊢
    refine ⟨Finset.mem_univ _, ?_⟩
    rw [hX]
    have et : (⟨128 * (t.val / 128) + t.val % 128, by omega⟩ : Fin 32768) = t := Fin.ext (by show 128 * (t.val / 128) + t.val % 128 = t.val; omega)
    exact (congrArg (fun z => (b z).sle (BitVec.ofNat 32 s) = true) et).mpr ht.2
  · intro p _
    have h1 : (p 1).val < 128 := (p 1).isLt
    funext a
    match a with
    | ⟨0, _⟩ => exact Fin.ext (by show (128 * (p 0).val + (p 1).val) / 128 = (p 0).val; omega)
    | ⟨1, _⟩ => exact Fin.ext (by show (128 * (p 0).val + (p 1).val) % 128 = (p 1).val; omega)
  · intro t _
    exact Fin.ext (by show 128 * (t.val / 128) + t.val % 128 = t.val; omega)

theorem cntN_eq (s : ℕ) : cntN (iblk m c 1 (pnt 0 (by decide))) (BitVec.ofNat 32 s) = Score.cnt (aB m c) s :=
  cntN_of _ (aB m c) (fun r k => blk1_at m c _ r k) s

/-- The gathered rows are the last tokens. -/
theorem VN_eq (s : Fin 16) (k : Fin 256) : VN m c (ix2 s k) = Score.vn (aB m c) (aSe m c) s.val k := by
  rw [VN_at]
  unfold Score.vn Score.last aSe
  refine congrArg (fun t => m ((c : Thread nD τ).loc main_arg0) (ix2 t k)) (Fin.ext ?_)
  show rowN _ _ = _
  unfold rowN
  rw [cntN_eq]

/-- What block `n` adds to the sums. -/
def blockPart (s : Fin 16) (j : Fin 256) (n : ℕ) : EReal :=
  if h : n < 8 then ∑ r : Fin 4096, Score.part (aB m c) (aSe m c) (aW1 m c) (aB1 m c) (aW2 m c) (aB2 m c) (aWq m c) (aBq m c) s.val
    ⟨4096 * n + r.val, by omega⟩ j else 0

theorem accAt_at (s : Fin 16) (j : Fin 256) : ∀ n ≤ 8, accAt m c n (ix2 s j) = ∑ i ∈ Finset.range n, blockPart m c s j i := by
  intro n
  induction n with
  | zero => intro _; exact pay1_at _
  | succ n ih =>
    intro hn
    have hN : n < cfg0.N := by rw [N_eq]; omega
    have e := congrFun (accAt_succ m c ⟨n, hN⟩) (ix2 s j)
    refine e.trans ?_
    rw [accNext_at (aB m c) (aSe m c) (aW1 m c) (aB1 m c) (aW2 m c) (aB2 m c) (aWq m c) (aBq m c)
      (fun r => ⟨4096 * n + r.val, by omega⟩) _ _ _ _ _ _ _ _ _ (blk0_at m c _) (fun r => blk2_at m c ⟨n, hN⟩ (by show n < 8; omega) r)
      (fun r k => blk3_at m c ⟨n, hN⟩ (by show n < 8; omega) r k) (fun j k => blk4_at m c _ j k) (fun j k => blk5_at m c _ j k)
      (fun s k => blk6_at m c _ s k) (fun k => blk7_at c m _ k) (fun s k => VN_eq m c s k),
      Finset.sum_range_succ, ih (by omega)]
    refine congrArg (fun z : EReal => _ + z) ?_
    unfold blockPart
    rw [dif_pos (by omega)]

theorem acc_eq (s : Fin 16) (j : Fin 256) : accAt m c 8 (ix2 s j) =
    Score.sums (aB m c) (aSe m c) (aW1 m c) (aB1 m c) (aW2 m c) (aB2 m c) (aWq m c) (aBq m c) s.val j := by
  rw [accAt_at m c s j 8 (le_refl 8), ← Fin.sum_univ_eq_sum_range]
  unfold Score.sums
  rw [← sum_blocks]
  refine Finset.sum_congr rfl fun n _ => ?_
  unfold blockPart
  rw [dif_pos n.isLt]

/-- The session vectors. -/
theorem SH_eq (s : Fin 16) (j : Fin 256) : SH m c (ix2 s j) =
    Score.shv (aB m c) (aSe m c) (aW1 m c) (aB1 m c) (aW2 m c) (aB2 m c) (aWq m c) (aBq m c) (aW3 m c) (aB3 m c) s.val j := by
  unfold SH
  rw [pay3_at]
  unfold Score.shv
  refine congrArg₂ (fun y z : EReal => y + z) (Finset.sum_congr rfl fun k _ => ?_) (blk9_at m c _ j)
  refine congrArg₂ (fun y z : EReal => y * z) ?_ (blk8_at m c _ j k)
  unfold Score.both
  by_cases h : k.val < 256
  · rw [dif_pos h, dif_pos h, VN_eq]
  · rw [dif_neg h, dif_neg h, acc_eq]

end Cert.KernelIdeal.Hand

end
-- ==== Proof.IdealOut.lean ====
module

public import proofs.«01_k».proof.Proof.IdealVal
public import proofs.«01_k».proof.Proof.IdealEnds
public import Idealize.ShloMosaic.Lib.Pipeline.ArrRel

/-!
The result array after a run of the kernel: every element is the score of its session and item.
-/

@[expose] public section

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat RDat)
open scoped BigOperators

variable (m : (ℓ : Loc nD τ sig) → Buf (Elt Ideal) ℓ) (c : Dev nD)

/-- The score of session `s` and item `v`, of the arguments on core `c`. -/
def scoreOf (s : ℕ) (v : Fin 100000) : EReal :=
  Score.score (aB m c) (aSe m c) (aIw m c) (aW1 m c) (aB1 m c) (aW2 m c) (aB2 m c) (aWq m c) (aBq m c) (aW3 m c) (aB3 m c) s v

theorem xsize10_0 : ∀ t : Fin cfg0.N, (cfg0.win 10).xsize (cfg0.grid.coords t) 0 = (cfg0.win 11).xsize (cfg0.grid.coords t) 1 := by decide +kernel
theorem xsize10_1 : ∀ t : Fin cfg0.N, (cfg0.win 10).xsize (cfg0.grid.coords t) 1 = 256 := by decide +kernel
theorem flush_ge : ∀ t : Fin cfg0.N, (cfg0.win 11).flush t = true → 8 ≤ t.val := by decide +kernel
theorem xsize_in : ∀ t : Fin cfg0.N, 8 ≤ t.val → (t.val - 8) * 10240 + (cfg0.win 11).xsize (cfg0.grid.coords t) 1 ≤ 100000 := by decide +kernel
theorem covers11 : (cfg0.win 11).Covers := by decide +kernel

/-- The row of the item block that scores a column inside the array is the item's row. -/
theorem item_at (t : Fin cfg0.N) (ht : 8 ≤ t.val) (d : Vec Ideal S10240x256 .f32) (v : Fin 10240)
    (hv : v.val < (cfg0.win 11).xsize (cfg0.grid.coords t) 1) (k : Fin 256) :
    item m c t d (ix2 v k) = aIw m c ⟨(t.val - 8) * 10240 + v.val, by have := xsize_in t ht; omega⟩ k := by
  let j : ((cfg0.win 10).xblock (cfg0.grid.coords t)).Idx := fun a => match a with
    | ⟨0, _⟩ => ⟨v.val, by rw [← xsize10_0 t] at hv; exact hv⟩
    | ⟨1, _⟩ => ⟨k.val, lt_of_lt_of_eq k.isLt (xsize10_1 t).symm⟩
  have hj : (ix2 v k : S10240x256.Idx) = (cfg0.win 10).xinj (cfg0.grid.coords t) j := by
    funext a
    match a with
    | ⟨0, _⟩ => rfl
    | ⟨1, _⟩ => rfl
  unfold item
  refine (congrArg _ hj).trans (((cfg0.win 10).fill_xinj _ _ _ _).trans ?_)
  unfold aIw
  have e := winIdx10 t ht
  blk_ext [iblk, V, e]
  · rfl
  · rfl

/-- Every element of the result array is a score. -/
theorem out_at (s : MemSt nD τ sig (Elt Ideal)) (h : EndAt m c s) :
    s.mem ((c : Thread nD τ).loc main_v6) = fun i => scoreOf m c (i 0).val (i 1) := by
  have h11 := h.1 11
  obtain ⟨X, hX, hA⟩ := h11.exists_exact
  have e := hA (Function.update (fun _ _ _ => Classical.arbitrary _) 11 X) (fun _ _ _ => by rw [Function.update_self])
  funext i
  refine (congrFun e i).trans ?_
  refine Dat.arrAt_forall_of_covers (dat := (rdats m 0 c).withAfter _) 11 (fun i x => x = scoreOf m c (i 0).val (i 1)) covers11
    (fun t hf y => ?_) i
  have ht := flush_ge t hf
  obtain ⟨d, hd⟩ := Dat.toRRel_leaves (dat := dats m 0 c) (fgt := mark) (Rl := rel m c) (w := 11) rfl (hX t t.isLt hf) ht
  rw [Pipeline.RDat.withAfter_after, Function.update_self]
  have hv : (y 1).val < (cfg0.win 11).xsize (cfg0.grid.coords t) 1 := (y 1).isLt
  have h0 : (y 0).val < 16 := lt_of_lt_of_le (y 0).isLt ((cfg0.win 11).xsize_le (cfg0.grid.coords t) 0)
  have h1 : (y 1).val < 10240 := lt_of_lt_of_le (y 1).isLt ((cfg0.win 11).xsize_le (cfg0.grid.coords t) 1)
  have hy : (cfg0.win 11).xinj (cfg0.grid.coords t) y = (ix2 (⟨(y 0).val, h0⟩ : Fin 16) (⟨(y 1).val, h1⟩ : Fin 10240) : S16x10240.Idx) := by
    funext a
    match a with
    | ⟨0, _⟩ => rfl
    | ⟨1, _⟩ => rfl
  have e0 : ((((cfg0.win 11).blk t).view.emb y) 0).val = (y 0).val := by
    have e := winIdx11 t ht
    blk_simp [e]
  have e1 : ((((cfg0.win 11).blk t).view.emb y) 1).val = (t.val - 8) * 10240 + (y 1).val := by
    have e := winIdx11 t ht
    blk_simp [e]
  show X t ((cfg0.win 11).xinj (cfg0.grid.coords t) y) = scoreOf m c _ _
  refine (congrFun hd _).trans ((congrArg (k0_pay4 (SH m c) (item m c t d)) hy).trans ?_)
  rw [pay4_at]
  unfold scoreOf Score.score
  refine Finset.sum_congr rfl fun k _ => ?_
  rw [SH_eq, item_at m c t ht d _ hv k]
  refine congrArg₂ (fun x z : EReal => x * z) ?_ (congrArg (fun v => aIw m c v k) (Fin.ext e1.symm))
  exact congrArg (fun n => Score.shv (aB m c) (aSe m c) (aW1 m c) (aB1 m c) (aW2 m c) (aB2 m c) (aWq m c) (aBq m c) (aW3 m c) (aB3 m c) n k) e0.symm

end Cert.KernelIdeal.Hand

end
-- ==== Proof.RefOps.lean ====
module

public import proofs.«01_k».proof.Proof.Gen.ReferenceIdeal
public import Idealize.ShloMosaic.PureOps.Ideal.Laws
public import Idealize.ShloMosaic.Lib.Routing.Ops
public import Idealize.ShloMosaic.Lib.Routing.OpsPair
public import Idealize.ShloMosaic.Lib.Routing.Count
public import Idealize.ShloMosaic.Lib.Routing.Shapes
public import Idealize.ShloMosaic.Lib.Pipeline.Value

/-!
Operations of the reference that move data by index, read at an index: where an update of the histogram and of the
per-session sums lands, the histogram as a count, the sums as a sum over tokens, and the test that every index of a row
is in bounds.
-/

@[expose] public section

set_option maxRecDepth 16384

noncomputable section

namespace Cert.ReferenceIdeal.Hand

open Cert.ReferenceIdeal Cert.ReferenceIdeal.Gen Idealize.ShloMosaic Idealize.ShloMosaic.Routing Idealize.ShloMosaic.ValueIdx
open scoped BigOperators

/-- An update of the histogram lands at its own index, read signed. -/
theorem hist_lands (idx : IVec S32768x1 32) (t : Fin 32768) (s : Fin 16) :
    scatter_S16_S32768x1_S32768_n_0_0_1.resultIdx? (ix1 t) idx = some (ix1 s) ↔ (idx (ix2 t 0)).toInt = (s.val : ℤ) := by
  have hw : scatter_S16_S32768x1_S32768_n_0_0_1.window (ix1 t) 0 = 0 := rfl
  have hs : scatter_S16_S32768x1_S32768_n_0_0_1.start (ix1 t) idx 0 = (idx (ix2 t 0)).toInt := by
    unfold ScatterDims.start
    rw [dif_pos (by decide)]
    refine congrArg (fun i => (idx i).toInt) (funext fun a => ?_)
    match a with
    | ⟨0, _⟩ => rfl
    | ⟨1, _⟩ => rfl
  refine (resultIdx?_ix1 scatter_S16_S32768x1_S32768_n_0_0_1 (ix1 t) idx s).trans ?_
  rw [hs, hw]
  simp

/-- A row added to the per-session sums lands at its own index, read signed, column for column. -/
theorem row_lands (idx : IVec S32768x1 32) (t : Fin 32768) (j : Fin 256) (s : Fin 16) (k : Fin 256) :
    scatter_S16x256_S32768x1_S32768x256_1_0_0_1.resultIdx? (ix2 t j) idx = some (ix2 s k)
      ↔ (idx (ix2 t 0)).toInt = (s.val : ℤ) ∧ j = k := by
  have hw0 : scatter_S16x256_S32768x1_S32768x256_1_0_0_1.window (ix2 t j) 0 = 0 := rfl
  have hw1 : scatter_S16x256_S32768x1_S32768x256_1_0_0_1.window (ix2 t j) 1 = j.val := rfl
  have hs0 : scatter_S16x256_S32768x1_S32768x256_1_0_0_1.start (ix2 t j) idx 0 = (idx (ix2 t 0)).toInt := by
    unfold ScatterDims.start
    rw [dif_pos (by decide)]
    refine congrArg (fun i => (idx i).toInt) (funext fun a => ?_)
    match a with
    | ⟨0, _⟩ => rfl
    | ⟨1, _⟩ => rfl
  have hs1 : scatter_S16x256_S32768x1_S32768x256_1_0_0_1.start (ix2 t j) idx 1 = 0 := by
    unfold ScatterDims.start
    rw [dif_neg (by decide)]
  refine (resultIdx?_ix2 scatter_S16x256_S32768x1_S32768x256_1_0_0_1 (ix2 t j) idx s k).trans ?_
  rw [hs0, hw0, hs1, hw1]
  constructor
  · rintro ⟨h0, h1⟩
    exact ⟨by simpa using h0, Fin.ext (by simpa using h1)⟩
  · rintro ⟨h0, rfl⟩
    exact ⟨by simpa using h0, by simp⟩

/-- Adding one for every position that is hit counts the hits. -/
theorem foldl_hits {n : ℕ} (hit : Fin n → Prop) [DecidablePred hit] (l : List (Fin n)) (z : ℕ) :
    l.foldl (fun (a : BitVec 32) k => if hit k then IntOp.addi a 1#32 else a) (BitVec.ofNat 32 z)
      = BitVec.ofNat 32 (z + l.countP fun k => decide (hit k)) := by
  induction l generalizing z with
  | nil => simp
  | cons k l ih =>
    rw [List.foldl_cons, List.countP_cons]
    by_cases h : hit k
    · rw [if_pos h, show IntOp.addi (BitVec.ofNat 32 z) 1#32 = BitVec.ofNat 32 (z + 1) from (BitVec.ofNat_add z 1).symm, ih]
      simp only [h, decide_true, if_true]
      congr 1
      omega
    · rw [if_neg h, ih]
      simp [h]

/-- A number of positions, counted along the list or as a set. -/
theorem countP_eq_card {n : ℕ} (P : Fin n → Prop) [DecidablePred P] :
    (List.finRange n).countP (fun k => decide (P k)) = (Finset.univ.filter P).card := by
  rw [List.countP_eq_length_filter]
  have e : Finset.univ.filter P = ((List.finRange n).filter fun k => decide (P k)).toFinset := by
    ext k
    simp
  rw [e, List.toFinset_card_of_nodup ((List.nodup_finRange n).filter _)]

/-- The histogram at session `s`: how many tokens have the index `s`. -/
theorem hist_at (x0 : IVec S16 32) (hx0 : ∀ i, x0 i = 0#32) (idx : IVec S32768x1 32) (upd : IVec S32768 32)
    (hupd : ∀ i, upd i = 1#32) (s : Fin 16) :
    Host.scatter scatter_S16_S32768x1_S32768_n_0_0_1 IntOp.addi x0 idx upd (ix1 s)
      = BitVec.ofNat 32 (Finset.univ.filter fun t : Fin 32768 => (idx (ix2 t 0)).toInt = (s.val : ℤ)).card := by
  have hN : S32768.numel = 32768 := numel1 32768
  rw [scatter_at, hx0]
  have e : ∀ n : Fin S32768.numel, (scatter_S16_S32768x1_S32768_n_0_0_1.resultIdx? (S32768.rowMajor.symm n) idx = some (ix1 s))
      ↔ (idx (ix2 (n.cast hN) 0)).toInt = (s.val : ℤ) := fun n => by
    have h1 : S32768.rowMajor.symm n = ix1 (n.cast hN) := symm1 n
    rw [h1]
    exact hist_lands idx _ s
  have f : (fun (a : BitVec 32) (n : Fin S32768.numel) =>
        if scatter_S16_S32768x1_S32768_n_0_0_1.resultIdx? (S32768.rowMajor.symm n) idx = some (ix1 s)
          then IntOp.addi a (upd (S32768.rowMajor.symm n)) else a)
      = fun a n => if (idx (ix2 (n.cast hN) 0)).toInt = (s.val : ℤ) then IntOp.addi a 1#32 else a := by
    funext a n
    rw [hupd]
    exact if_congr (e n) rfl rfl
  rw [f]
  refine (foldl_hits (fun n : Fin S32768.numel => (idx (ix2 (n.cast hN) 0)).toInt = (s.val : ℤ)) _ 0).trans ?_
  rw [Nat.zero_add, countP_eq_card]
  refine congrArg (BitVec.ofNat 32) (Finset.card_bij (fun n _ => n.cast hN) ?_ ?_ ?_)
  · intro n hn
    simpa using hn
  · intro n _ n' _ h
    exact Fin.ext (congrArg Fin.val h)
  · intro t ht
    exact ⟨t.cast hN.symm, by simpa using ht, rfl⟩

/-- The per-session sums at `(s, j)`: the rows of the tokens with index `s`, added up. -/
theorem rows_at (x0 : FVec Ideal S16x256 .f32) (idx : IVec S32768x1 32) (upd : FVec Ideal S32768x256 .f32) (s : Fin 16) (j : Fin 256) :
    Host.scatterAdd scatter_S16x256_S32768x1_S32768x256_1_0_0_1 x0 idx upd (ix2 s j)
      = (x0 (ix2 s j) : EReal) + ∑ t : Fin 32768, if (idx (ix2 t 0)).toInt = (s.val : ℤ) then (upd (ix2 t j) : EReal) else 0 := by
  have h : Host.scatterAdd scatter_S16x256_S32768x1_S32768x256_1_0_0_1 x0 idx upd (ix2 s j)
      = (x0 (ix2 s j) : EReal) + ∑ i ∈ Finset.univ.filter (fun i : S32768x256.Idx =>
          scatter_S16x256_S32768x1_S32768x256_1_0_0_1.resultIdx? i idx = some (ix2 s j)), (upd i : EReal) := rfl
  rw [h]
  refine congrArg ((x0 (ix2 s j) : EReal) + ·) ?_
  rw [← Finset.sum_filter (s := Finset.univ)]
  refine (Finset.sum_bij (fun (t : Fin 32768) _ => (ix2 t j : S32768x256.Idx)) ?_ ?_ ?_ ?_).symm
  · intro t ht
    simp only [Finset.mem_filter, Finset.mem_univ, true_and] at ht ⊢
    exact (row_lands idx t j s j).2 ⟨ht, rfl⟩
  · intro t _ t' _ e
    exact congrFun e 0
  · intro i hi
    simp only [Finset.mem_filter, Finset.mem_univ, true_and] at hi
    obtain ⟨t, k, rfl⟩ : ∃ (t : Fin 32768) (k : Fin 256), i = ix2 t k := ⟨i 0, i 1, eq_ix2 i⟩
    have q := (row_lands idx t k s j).1 hi
    refine ⟨t, by simp only [Finset.mem_filter, Finset.mem_univ, true_and]; exact q.1, ?_⟩
    rw [q.2]
  · intro t _
    rfl

/-- A conjunction of ones is one. -/
theorem foldl_ones {α : Type} (l : List α) (f : α → BitVec 1) (h : ∀ a ∈ l, f a = 1#1) :
    l.foldl (fun r a => IntOp.andi r (f a)) 1#1 = 1#1 := by
  induction l with
  | nil => rfl
  | cons a l ih =>
    rw [List.foldl_cons, h a List.mem_cons_self]
    exact ih fun b hb => h b (List.mem_cons_of_mem _ hb)

/-- A conjunction along an axis is one where every element it reads is one. -/
theorem reduce_ones {s t u : Shape} {axes : List (Fin s.rank)} (x : IVec s 1) (init : IVec u 1) (h : s.ReducesTo axes t)
    (hu : 0 < u.numel) (j : t.Idx) (hi : ∀ i, init i = 1#1) (hx : ∀ i, h.drop i = j → x i = 1#1) :
    Host.reduce IntOp.andi x init h hu j = 1#1 := by
  unfold Host.reduce
  rw [hi]
  exact foldl_ones _ _ fun n hn => hx _ (of_decide_eq_true (List.mem_filter.1 hn).2)

end Cert.ReferenceIdeal.Hand

end
-- ==== Proof.RefCount.lean ====
module

public import proofs.«01_k».proof.Proof.Gen.ReferenceIdeal.Read
public import proofs.«01_k».proof.Proof.RefOps
public import proofs.«01_k».proof.Proof.Score

/-!
The reference's word arithmetic: the histogram of session numbers, its running total, the last token of every session
and the rows gathered there, and the rows gathered back to the tokens. `b` numbers the session of every token. Every
running total is at least one here, which is what the precondition says.
-/

@[expose] public section

set_option maxRecDepth 16384

noncomputable section

namespace Cert.ReferenceIdeal.Hand

open Cert.ReferenceIdeal Cert.ReferenceIdeal.Gen Cert.ReferenceIdeal.Read Idealize.ShloMosaic Idealize.ShloMosaic.Routing
  Idealize.ShloMosaic.ValueIdx
open scoped BigOperators

/-- The session numbers of the tokens. -/
abbrev Words : Type := (⟨S32768, .i32⟩ : BufTy).Contents (Elt Ideal)

/-- The token embeddings. -/
abbrev Rows : Type := (⟨S32768x256, .f32⟩ : BufTy).Contents (Elt Ideal)

/-- The session numbers by token. -/
abbrev bOf (x1 : Words) : Fin 32768 → BitVec 32 := fun t => x1 (ix1 t)

/-- The embeddings by token and feature. -/
abbrev seOf (x0 : Rows) : Fin 32768 → Fin 256 → EReal := fun t k => x0 (ix2 t k)

/-- A nonnegative word is below half the range. -/
theorem toNat_lt_half (x : BitVec 32) (h : 0 ≤ x.toInt) : x.toNat < 2 ^ 31 := by
  have := BitVec.toInt_eq_toNat_cond x
  split at this <;> omega

/-- Raising a word to zero, read signed. -/
theorem toInt_max0 (x : BitVec 32) : (IntOp.maxsi 0#32 x).toInt = max 0 x.toInt := by
  unfold IntOp.maxsi
  by_cases h : x.slt 0#32 = true
  · rw [if_pos h]
    have h' : x.toInt < 0 := by simpa [BitVec.slt] using h
    rw [max_eq_left (le_of_lt h')]
    rfl
  · rw [if_neg h]
    have h' : ¬ x.toInt < 0 := by simpa [BitVec.slt] using h
    rw [max_eq_right (not_lt.1 h')]

theorem toInt_small (n : ℕ) (h : n < 2 ^ 31) : (BitVec.ofNat 32 n).toInt = (n : ℤ) := by
  have := BitVec.toInt_eq_toNat_cond (BitVec.ofNat 32 n)
  rw [BitVec.toNat_ofNat, Nat.mod_eq_of_lt (by omega)] at this
  split at this <;> omega

theorem toNat_small (n : ℕ) (h : n < 2 ^ 31) : (BitVec.ofNat 32 n).toNat = n := by
  rw [BitVec.toNat_ofNat, Nat.mod_eq_of_lt (by omega)]

/-- The index at which token `t` is counted. -/
theorem slot_at (x1 : Words) (t : Fin 32768) : val_main_v7 (F := Ideal) x1 (ix2 t 0) = IntOp.maxsi 0#32 (bOf x1 t) := by
  have e1 : ∀ i, val_main_v1 (F := Ideal) x1 i = IntOp.maxsi 0#32 (x1 i) := fun i => by
    simp only [val_main_v1_apply, val_main_call0_v1_apply, val_main_call0_v0_apply, val_main_c_0_apply]
  have e0 : idx_main_v7 (ix2 t 0) = ix1 t := funext fun a => match a with | ⟨0, _⟩ => rfl
  rw [val_main_v7_apply, e0, val_main_v6_apply, val_main_v3_apply, val_main_v2_apply, val_main_c_1_apply, wrap_of_lt, e1]
  rw [e1]
  exact toNat_lt_half _ (by rw [toInt_max0]; exact le_max_left _ _)

/-- How many tokens are counted at `s`. -/
def tally (b : Fin 32768 → BitVec 32) (s : ℕ) : ℕ := (Finset.univ.filter fun t : Fin 32768 => max 0 (b t).toInt = (s : ℤ)).card

theorem tally_at (x1 : Words) (s : Fin 16) : val_main_v9 (F := Ideal) x1 (ix1 s) = BitVec.ofNat 32 (tally (bOf x1) s.val) := by
  unfold val_main_v9
  refine (hist_at _ (fun i => ?_) _ _ (fun i => ?_) s).trans ?_
  · simp only [val_main_v0_apply, val_main_c_apply]
  · simp only [val_main_v8_apply, val_main_c_3_apply]
  · unfold tally
    simp only [slot_at, toInt_max0]

/-- The tallies up to `s` add up to the tokens whose session number is at most `s`. -/
theorem tally_sum (b : Fin 32768 → BitVec 32) (s : ℕ) (hs : s < 16) :
    ((List.range (s + 1)).map (tally b)).sum = Score.cnt b s := by
  have h0 : ((List.range (s + 1)).map (tally b)).sum = ∑ i ∈ Finset.range (s + 1), tally b i := rfl
  have hle : ∀ t, (b t).sle (BitVec.ofNat 32 s) = true ↔ (b t).toInt ≤ (s : ℤ) := fun t => by
    rw [BitVec.sle, decide_eq_true_iff, toInt_small s (by omega)]
  rw [h0]
  unfold Score.cnt
  rw [Finset.card_eq_sum_card_fiberwise (f := fun t => (max 0 (b t).toInt).toNat) (t := Finset.range (s + 1))]
  · refine Finset.sum_congr rfl fun i hi => ?_
    unfold tally
    rw [Finset.filter_filter]
    refine congrArg Finset.card (Finset.filter_congr fun t _ => ?_)
    rw [hle]
    have := Finset.mem_range.1 hi
    omega
  · intro t ht
    have := (hle t).1 (by simpa using ht)
    simp only [Finset.coe_range, Set.mem_Iio]
    omega

theorem total_at (x1 : Words) (s : Fin 16) : val_main_v10 (F := Ideal) x1 (ix1 s) = BitVec.ofNat 32 (Score.cnt (bOf x1) s.val) := by
  unfold val_main_v10
  refine (cumsum1 (by decide : 15 + 1 = 16) (val_main_v9 (F := Ideal) x1) (tally (bOf x1)) (fun i => tally_at x1 i) _ ?_ _ _ s).trans ?_
  · simp only [val_main_call1_call0_v0_apply, val_main_call1_call0_c_apply]
  · rw [tally_sum _ _ s.isLt]

/-- The last token of a session, by number. -/
theorem last_at (x1 : Words) (hc : ∀ s : Fin 16, 1 ≤ Score.cnt (bOf x1) s.val) (s : Fin 16) :
    val_main_call2_v5 (F := Ideal) x1 (ix2 s 0) = BitVec.ofNat 32 (Score.last (bOf x1) s.val).val := by
  have h12 : val_main_v12 (F := Ideal) x1 (ix1 s) = BitVec.ofNat 32 (Score.cnt (bOf x1) s.val - 1) := by
    rw [val_main_v12_apply, total_at, val_main_v11_apply, val_main_c_4_apply]
    obtain ⟨n, hn⟩ : ∃ n, Score.cnt (bOf x1) s.val = n + 1 := ⟨_, (Nat.succ_pred_eq_of_pos (hc s)).symm⟩
    rw [hn]
    show BitVec.ofNat 32 (n + 1) - 1#32 = BitVec.ofNat 32 n
    rw [BitVec.ofNat_add]
    exact BitVec.add_sub_cancel _ _
  have e0 : idx_main_call2_v5 (ix2 s 0) = ix1 s := funext fun a => match a with | ⟨0, _⟩ => rfl
  have hle := Score.cnt_le (bOf x1) s.val
  rw [val_main_call2_v5_apply, e0, val_main_call2_v4_apply, val_main_call2_v1_apply, val_main_call2_v0_apply,
    val_main_call2_c_apply, wrap_of_lt, h12]
  · rfl
  · rw [h12, toNat_small _ (by omega)]
    omega

/-- Every last token is in bounds. -/
theorem last_in (x1 : Words) (hc : ∀ s : Fin 16, 1 ≤ Score.cnt (bOf x1) s.val) (i : S16x1.Idx) :
    val_main_call2_v11 (F := Ideal) x1 i = 1#1 := by
  obtain ⟨s, u, rfl⟩ : ∃ (s : Fin 16) (u : Fin 1), i = ix2 s u := ⟨i 0, i 1, eq_ix2 i⟩
  obtain rfl : u = 0 := Subsingleton.elim _ _
  have hl := (Score.last (bOf x1) s.val).isLt
  rw [val_main_call2_v11_apply, val_main_call2_v7_apply, val_main_call2_v10_apply, last_at x1 hc, val_main_call2_v6_apply,
    val_main_call2_c_2_apply, val_main_call2_v9_apply, val_main_call2_v8_apply, val_main_call2_c_1_apply,
    WordCmp.cmpi_sge_eq, WordCmp.cmpi_sle_eq, toInt_small 0 (by decide), toInt_small (Score.last (bOf x1) s.val).val (by omega), toInt_small 32767 (by decide),
    decide_eq_true (by omega), decide_eq_true (by omega)]
  rfl

/-- The rows gathered at the last tokens. -/
theorem vn_at (x0 : Rows) (x1 : Words) (hc : ∀ s : Fin 16, 1 ≤ Score.cnt (bOf x1) s.val) (s : Fin 16) (k : Fin 256) :
    val_main_v13 (F := Ideal) x0 x1 (ix2 s k) = Score.vn (bOf x1) (seOf x0) s.val k := by
  have h14 : val_main_call2_v14 (F := Ideal) x1 (ix2 s k) = 1#1 := by
    rw [val_main_call2_v14_apply]
    exact reduce_ones _ _ _ _ _ (fun _ => rfl) fun i _ => last_in x1 hc i
  have h13 : val_main_call2_v13 (F := Ideal) x0 x1 (ix2 s k) = x0 (ix2 (Score.last (bOf x1) s.val) k) := by
    unfold val_main_call2_v13
    exact gather_row gather_S32768x256_S16x1_S16x256_1_0_n_n_0_1_1256 rfl rfl rfl rfl rfl x0 _ s k _ (last_at x1 hc s) (by decide)
  rw [val_main_v13_apply, h14, h13]
  rfl

/-- A token of session `s` looks up row `s`. -/
theorem slot3_at (x1 : Words) (s : Fin 16) (t : Fin 32768) (ht : bOf x1 t = BitVec.ofNat 32 s.val) :
    val_main_call3_v5 (F := Ideal) x1 (ix2 t 0) = BitVec.ofNat 32 s.val := by
  have e0 : idx_main_call3_v5 (ix2 t 0) = ix1 t := funext fun a => match a with | ⟨0, _⟩ => rfl
  have hs := s.isLt
  rw [val_main_call3_v5_apply, e0, val_main_call3_v4_apply, val_main_call3_v1_apply, val_main_call3_v0_apply,
    val_main_call3_c_apply, show x1 (ix1 t) = BitVec.ofNat 32 s.val from ht, wrap_of_lt]
  rw [toNat_small _ (by omega)]
  omega

/-- A token of session `s` reads the last token of session `s`. -/
theorem vnTok_at (x0 : Rows) (x1 : Words) (hc : ∀ s : Fin 16, 1 ≤ Score.cnt (bOf x1) s.val) (s : Fin 16) (t : Fin 32768)
    (ht : bOf x1 t = BitVec.ofNat 32 s.val) (k : Fin 256) :
    val_main_v14 (F := Ideal) x0 x1 (ix2 t k) = Score.vn (bOf x1) (seOf x0) s.val k := by
  have hs := s.isLt
  have h14 : val_main_call3_v14 (F := Ideal) x1 (ix2 t k) = 1#1 := by
    rw [val_main_call3_v14_apply]
    refine reduce_ones _ _ _ _ _ (fun _ => rfl) fun i hi => ?_
    obtain ⟨t', u, rfl⟩ : ∃ (t' : Fin 32768) (u : Fin 1), i = ix2 t' u := ⟨i 0, i 1, eq_ix2 i⟩
    obtain rfl : u = 0 := Subsingleton.elim _ _
    obtain rfl : t' = t := Fin.ext (congrArg Fin.val (congrFun hi 0))
    rw [val_main_call3_v11_apply, val_main_call3_v7_apply, val_main_call3_v10_apply, slot3_at x1 s _ ht, val_main_call3_v6_apply,
      val_main_call3_c_2_apply, val_main_call3_v9_apply, val_main_call3_v8_apply, val_main_call3_c_1_apply,
      WordCmp.cmpi_sge_eq, WordCmp.cmpi_sle_eq, toInt_small 0 (by decide), toInt_small s.val (by omega), toInt_small 15 (by decide),
      decide_eq_true (by omega), decide_eq_true (by omega)]
    rfl
  have h13 : val_main_call3_v13 (F := Ideal) x0 x1 (ix2 t k) = val_main_v13 (F := Ideal) x0 x1 (ix2 s k) := by
    unfold val_main_call3_v13
    exact gather_row gather_S16x256_S32768x1_S32768x256_1_0_n_n_0_1_1256 rfl rfl rfl rfl rfl _ _ t k s (slot3_at x1 s t ht) (by decide)
  rw [val_main_v14_apply, h14, h13, ← vn_at x0 x1 hc]
  rfl

end Cert.ReferenceIdeal.Hand

end
-- ==== Proof.RefValue.lean ====
module

public import proofs.«01_k».proof.Proof.RefCount

/-!
The reference's result at an index: the score of the item in the session.
-/

@[expose] public section

set_option maxRecDepth 16384

noncomputable section

namespace Cert.ReferenceIdeal.Hand

open Cert.ReferenceIdeal Cert.ReferenceIdeal.Gen Cert.ReferenceIdeal.Read Idealize.ShloMosaic Idealize.ShloMosaic.Routing
  Idealize.ShloMosaic.ValueIdx
open scoped BigOperators

/-- A square weight matrix. -/
abbrev Square : Type := (⟨S256x256, .f32⟩ : BufTy).Contents (Elt Ideal)

/-- A bias. -/
abbrev Bias : Type := (⟨S256, .f32⟩ : BufTy).Contents (Elt Ideal)

section
variable (x0 : Rows) (x1 : Words) (x2 : (⟨S100000x256, .f32⟩ : BufTy).Contents (Elt Ideal)) (x3 : Square) (x4 : Bias) (x5 : Square)
  (x6 : Bias) (x7 : (⟨S1x256, .f32⟩ : BufTy).Contents (Elt Ideal)) (x8 : (⟨S1, .f32⟩ : BufTy).Contents (Elt Ideal))
  (x9 : (⟨S256x512, .f32⟩ : BufTy).Contents (Elt Ideal)) (x10 : Bias)

/-- A square weight matrix by its two indices. -/
abbrev sqOf (x : Square) : Fin 256 → Fin 256 → EReal := fun j k => x (ix2 j k)

/-- A bias by its index. -/
abbrev biasOf (x : Bias) : Fin 256 → EReal := fun j => x (ix1 j)

/-- The item table by item and feature. -/
abbrev iwOf : Fin 100000 → Fin 256 → EReal := fun v k => x2 (ix2 v k)

/-- The attention weights. -/
abbrev wqOf : Fin 256 → EReal := fun k => x7 (ix2 0 k)

/-- The attention bias. -/
abbrev bqOf : EReal := x8 (ix1 0)

/-- The weights of the last map. -/
abbrev w3Of : Fin 256 → Fin 512 → EReal := fun j k => x9 (ix2 j k)

variable (hc : ∀ s : Fin 16, 1 ≤ Score.cnt (bOf x1) s.val)

/-- The pattern of one. -/
theorem one_eq : Ideal.ofBits .f32 0x3F800000#32 = (1 : EReal) := by
  show Ideal.ieee 8 23 (0x3F800000#32 : BitVec 32) = _
  unfold Ideal.ieee
  have e1 : (BitVec.extractLsb' 23 8 (0x3F800000#32 : BitVec 32)).toNat = 127 := by decide
  have e2 : (BitVec.extractLsb' 0 23 (0x3F800000#32 : BitVec 32)).toNat = 0 := by decide
  have e3 : (BitVec.extractLsb' (8 + 23) 1 (0x3F800000#32 : BitVec 32) == 1#1) = false := by decide
  simp only [e1, e2, e3]
  norm_num

/-- The pattern of zero. -/
theorem zero_eq : Ideal.ofBits .f32 0x00000000#32 = (0 : EReal) := by
  show Ideal.ieee 8 23 (0x00000000#32 : BitVec 32) = _
  unfold Ideal.ieee
  have e1 : (BitVec.extractLsb' 23 8 (0x00000000#32 : BitVec 32)).toNat = 0 := by decide
  have e2 : (BitVec.extractLsb' 0 23 (0x00000000#32 : BitVec 32)).toNat = 0 := by decide
  have e3 : (BitVec.extractLsb' (8 + 23) 1 (0x00000000#32 : BitVec 32) == 1#1) = false := by decide
  simp only [e1, e2, e3]
  norm_num

include hc

/-- The gate of a token of session `s`. -/
theorem gate_at (s : Fin 16) (t : Fin 32768) (ht : bOf x1 t = BitVec.ofNat 32 s.val) (j : Fin 256) :
    val_main_v31 (F := Ideal) x0 x1 x3 x4 x5 x6 (ix2 t j)
      = Score.gate (bOf x1) (seOf x0) (sqOf x3) (biasOf x4) (sqOf x5) (biasOf x6) s.val t j := by
  have h16 : val_main_v16 (F := Ideal) x0 x1 x3 (ix2 t j) = ∑ k, Score.vn (bOf x1) (seOf x0) s.val k * sqOf x3 j k := by
    rw [val_main_v16_apply]
    refine Finset.sum_congr rfl fun k _ => ?_
    have el : lidx_main_v16 (ix2 t j) k = ix2 t k := funext fun a => match a with | ⟨0, _⟩ => rfl | ⟨1, _⟩ => rfl
    have er : idx_main_v15 (ridx_main_v16 (ix2 t j) k) = ix2 j k := funext fun a => match a with | ⟨0, _⟩ => rfl | ⟨1, _⟩ => rfl
    rw [val_main_v15_apply, el, er, vnTok_at x0 x1 hc s t ht]
  have h18 : val_main_v18 (F := Ideal) x4 (ix2 t j) = biasOf x4 j := by
    rw [val_main_v18_apply, val_main_v17_apply]
    exact congrArg x4 (funext fun a => match a with | ⟨0, _⟩ => rfl)
  have h21 : val_main_v21 (F := Ideal) x0 x5 (ix2 t j) = ∑ k, seOf x0 t k * sqOf x5 j k := by
    rw [val_main_v21_apply]
    refine Finset.sum_congr rfl fun k _ => ?_
    have el : lidx_main_v21 (ix2 t j) k = ix2 t k := funext fun a => match a with | ⟨0, _⟩ => rfl | ⟨1, _⟩ => rfl
    have er : idx_main_v20 (ridx_main_v21 (ix2 t j) k) = ix2 j k := funext fun a => match a with | ⟨0, _⟩ => rfl | ⟨1, _⟩ => rfl
    rw [val_main_v20_apply, el, er]
  have h24 : val_main_v24 (F := Ideal) x6 (ix2 t j) = biasOf x6 j := by
    rw [val_main_v24_apply, val_main_v23_apply]
    exact congrArg x6 (funext fun a => match a with | ⟨0, _⟩ => rfl)
  have h25 : val_main_v25 (F := Ideal) x0 x1 x3 x4 x5 x6 (ix2 t j)
      = ((∑ k, seOf x0 t k * sqOf x5 j k)
        + ((∑ k, Score.vn (bOf x1) (seOf x0) s.val k * sqOf x3 j k) + (biasOf x4 j + biasOf x6 j)) : EReal) := by
    rw [val_main_v25_apply, val_main_v22_apply, val_main_v19_apply, h16, h18, h21, h24]
    show ((_ + _) + _ + _ : EReal) = _
    rw [add_comm (_ + _ : EReal) (∑ k, seOf x0 t k * sqOf x5 j k), add_assoc, add_assoc]
  have h1 : val_main_v28 (F := Ideal) (ix2 t j) = (1 : EReal) := by
    rw [val_main_v28_apply, val_main_cst_apply]
    exact one_eq
  have h1' : val_main_v30 (F := Ideal) (ix2 t j) = (1 : EReal) := by
    rw [val_main_v30_apply, val_main_cst_5_apply]
    exact one_eq
  rw [val_main_v31_apply, val_main_v29_apply, val_main_v27_apply, val_main_v26_apply, h25, h1, h1']
  rfl

/-- The attention score of a token of session `s`. -/
theorem alpha_at (s : Fin 16) (t : Fin 32768) (ht : bOf x1 t = BitVec.ofNat 32 s.val) :
    val_main_v36 (F := Ideal) x0 x1 x3 x4 x5 x6 x7 x8 (ix2 t 0)
      = Score.alpha (bOf x1) (seOf x0) (sqOf x3) (biasOf x4) (sqOf x5) (biasOf x6) (wqOf x7) (bqOf x8) s.val t := by
  have h33 : val_main_v33 (F := Ideal) x0 x1 x3 x4 x5 x6 x7 (ix2 t 0)
      = ∑ j, Score.gate (bOf x1) (seOf x0) (sqOf x3) (biasOf x4) (sqOf x5) (biasOf x6) s.val t j * wqOf x7 j := by
    rw [val_main_v33_apply]
    refine Finset.sum_congr rfl fun k _ => ?_
    have el : lidx_main_v33 (ix2 t 0) k = ix2 t k := funext fun a => match a with | ⟨0, _⟩ => rfl | ⟨1, _⟩ => rfl
    have er : idx_main_v32 (ridx_main_v33 (ix2 t 0) k) = ix2 0 k := funext fun a => match a with | ⟨0, _⟩ => rfl | ⟨1, _⟩ => rfl
    rw [val_main_v32_apply, el, er, gate_at x0 x1 x3 x4 x5 x6 hc s t ht]
  have h35 : val_main_v35 (F := Ideal) x8 (ix2 t 0) = bqOf x8 := by
    rw [val_main_v35_apply, val_main_v34_apply]
    exact congrArg x8 (funext fun a => match a with | ⟨0, _⟩ => rfl)
  rw [val_main_v36_apply, h33, h35]
  rfl

/-- The weighted sum of the tokens of a session. -/
theorem sums_at (s : Fin 16) (j : Fin 256) :
    val_main_v41 (F := Ideal) x0 x1 x3 x4 x5 x6 x7 x8 (ix2 s j)
      = Score.sums (bOf x1) (seOf x0) (sqOf x3) (biasOf x4) (sqOf x5) (biasOf x6) (wqOf x7) (bqOf x8) s.val j := by
  have hs := s.isLt
  have h39 : val_main_v39 (F := Ideal) (ix2 s j) = (0 : EReal) := by
    rw [val_main_v39_apply, val_main_cst_6_apply]
    exact zero_eq
  unfold val_main_v41
  refine (rows_at _ _ _ s j).trans ?_
  rw [h39, zero_add]
  unfold Score.sums
  refine Finset.sum_congr rfl fun t _ => ?_
  have e40 : val_main_v40 (F := Ideal) x1 (ix2 t 0) = bOf x1 t := by
    rw [val_main_v40_apply]
    exact congrArg x1 (funext fun a => match a with | ⟨0, _⟩ => rfl)
  rw [e40]
  unfold Score.part
  by_cases ht : bOf x1 t = BitVec.ofNat 32 s.val
  · have e37 : idx_main_v37 (ix2 t j) = ix2 t 0 := funext fun a => match a with | ⟨0, _⟩ => rfl | ⟨1, _⟩ => rfl
    rw [if_pos ht, if_pos (by rw [ht, toInt_small _ (by omega)]), val_main_v38_apply, val_main_v37_apply, e37,
      alpha_at x0 x1 x3 x4 x5 x6 x7 x8 hc s t ht]
    rfl
  · rw [if_neg ht, if_neg fun h => ht (BitVec.eq_of_toInt_eq (by rw [h, toInt_small _ (by omega)]))]

/-- The last token next to the weighted sum. -/
theorem both_at (s : Fin 16) (k : Fin 512) :
    val_main_v42 (F := Ideal) x0 x1 x3 x4 x5 x6 x7 x8 (ix2 s k)
      = Score.both (bOf x1) (seOf x0) (sqOf x3) (biasOf x4) (sqOf x5) (biasOf x6) (wqOf x7) (bqOf x8) s.val k := by
  unfold val_main_v42 Score.both
  by_cases h : k.val < 256
  · rw [dif_pos h, ← vn_at x0 x1 hc s ⟨k.val, h⟩]
    exact concatenate_pair_apply_left 1 _ _ concatenates_S16x256_S16x256_S16x512_d1 (ix2 s k) rfl (ix2 s ⟨k.val, h⟩)
      (fun a => match a with | ⟨0, _⟩ => rfl | ⟨1, _⟩ => rfl)
  · have hk := k.isLt
    rw [dif_neg h, ← sums_at x0 x1 x3 x4 x5 x6 x7 x8 hc s ⟨k.val - 256, by omega⟩]
    exact concatenate_pair_apply_right 1 _ _ concatenates_S16x256_S16x256_S16x512_d1 (ix2 s k) rfl rfl (ix2 s ⟨k.val - 256, by omega⟩)
      (fun a => match a with | ⟨0, _⟩ => fun _ => rfl | ⟨1, _⟩ => fun q => (q rfl).elim)
      (by show k.val - 256 + 256 = k.val; omega)

/-- The vector of a session. -/
theorem shv_at (s : Fin 16) (j : Fin 256) :
    val_main_v47 (F := Ideal) x0 x1 x3 x4 x5 x6 x7 x8 x9 x10 (ix2 s j)
      = Score.shv (bOf x1) (seOf x0) (sqOf x3) (biasOf x4) (sqOf x5) (biasOf x6) (wqOf x7) (bqOf x8) (w3Of x9) (biasOf x10) s.val j := by
  have h44 : val_main_v44 (F := Ideal) x0 x1 x3 x4 x5 x6 x7 x8 x9 (ix2 s j)
      = ∑ k, Score.both (bOf x1) (seOf x0) (sqOf x3) (biasOf x4) (sqOf x5) (biasOf x6) (wqOf x7) (bqOf x8) s.val k * w3Of x9 j k := by
    rw [val_main_v44_apply]
    refine Finset.sum_congr rfl fun k _ => ?_
    have el : lidx_main_v44 (ix2 s j) k = ix2 s k := funext fun a => match a with | ⟨0, _⟩ => rfl | ⟨1, _⟩ => rfl
    have er : idx_main_v43 (ridx_main_v44 (ix2 s j) k) = ix2 j k := funext fun a => match a with | ⟨0, _⟩ => rfl | ⟨1, _⟩ => rfl
    rw [val_main_v43_apply, el, er, both_at x0 x1 x3 x4 x5 x6 x7 x8 hc s k]
  have h46 : val_main_v46 (F := Ideal) x10 (ix2 s j) = biasOf x10 j := by
    rw [val_main_v46_apply, val_main_v45_apply]
    exact congrArg x10 (funext fun a => match a with | ⟨0, _⟩ => rfl)
  rw [val_main_v47_apply, h44, h46]
  rfl

/-- The reference's result at session `s` and item `v`. -/
theorem score_at (s : Fin 16) (v : Fin 100000) :
    val_main_v49 (F := Ideal) x0 x1 x2 x3 x4 x5 x6 x7 x8 x9 x10 (ix2 s v)
      = Score.score (bOf x1) (seOf x0) (iwOf x2) (sqOf x3) (biasOf x4) (sqOf x5) (biasOf x6) (wqOf x7) (bqOf x8) (w3Of x9)
          (biasOf x10) s.val v := by
  rw [val_main_v49_apply]
  unfold Score.score
  refine Finset.sum_congr rfl fun k _ => ?_
  have el : lidx_main_v49 (ix2 s v) k = ix2 s k := funext fun a => match a with | ⟨0, _⟩ => rfl | ⟨1, _⟩ => rfl
  have er : idx_main_v48 (ridx_main_v49 (ix2 s v) k) = ix2 v k := funext fun a => match a with | ⟨0, _⟩ => rfl | ⟨1, _⟩ => rfl
  rw [val_main_v48_apply, el, er, shv_at x0 x1 x3 x4 x5 x6 x7 x8 x9 x10 hc s k]

end

end Cert.ReferenceIdeal.Hand

end
-- ==== Proof.Pre.lean ====
module

public import proofs.«01_k».proof.Defs
public import proofs.«01_k».proof.Proof.RefCount

/-!
What the precondition says: some token has a session number that is zero or less, so that the number of tokens at or
below every session is at least one.
-/

@[expose] public section

set_option maxRecDepth 16384

noncomputable section

namespace Cert.PreHand

open Idealize.ShloMosaic Idealize.ShloMosaic.ValueIdx

/-- The shapes of the predicate fit. -/
theorem facts : Cert.Pre_first_session_begun.Facts where
  bcast_S_S32768 := by decide
  reducesTo_S32768_S_d0 := by decide
  h_S_ := by decide

/-- A disjunction of zeros is zero. -/
theorem foldl_zeros {α : Type} (l : List α) (f : α → BitVec 1) (h : ∀ a, f a = 0#1) :
    l.foldl (fun r a => IntOp.ori r (f a)) 0#1 = 0#1 := by
  induction l with
  | nil => rfl
  | cons a l ih =>
    rw [List.foldl_cons, h a]
    exact ih

/-- A disjunction over an axis that is one has an element that is not zero. -/
theorem reduce_some {s t u : Shape} {axes : List (Fin s.rank)} (x : IVec s 1) (init : IVec u 1) (h : s.ReducesTo axes t)
    (hu : 0 < u.numel) (j : t.Idx) (hi : ∀ i, init i = 0#1) (e : Host.reduce IntOp.ori x init h hu j = 1#1) : ∃ i, x i ≠ 0#1 := by
  by_contra hn
  have hx : ∀ i, x i = 0#1 := fun i => by
    by_contra hne
    exact hn ⟨i, hne⟩
  unfold Host.reduce at e
  rw [hi, foldl_zeros _ _ fun n => hx _] at e
  exact absurd e (by decide)

/-- Some token has a session number that is zero or less. -/
theorem some_begun (x0 x2 x3 x4 x5 x6 x7 x8 x9 x10) (x1 : IVec Cert.Pre_first_session_begun.S32768 32)
    (h : @Cert.Pre_first_session_begun.fn facts Ideal _ x0 x1 x2 x3 x4 x5 x6 x7 x8 x9 x10 = fun _ => 1#1) :
    ∃ t : Fin 32768, (x1 (ix1 t)).toInt ≤ 0 := by
  obtain ⟨i, hi⟩ := reduce_some (s := Cert.Pre_first_session_begun.S32768) (u := Cert.Pre_first_session_begun.S_)
    (cmpi .sle x1 (broadcastInDim Cert.Pre_first_session_begun.S32768 ![] facts.bcast_S_S32768
      (constantI Cert.Pre_first_session_begun.S_ 32 0#32)))
    (constantI Cert.Pre_first_session_begun.S_ 1 0#1) facts.reducesTo_S32768_S_d0 facts.h_S_ ix0 (fun _ => rfl) (by
      have h0 := congrFun h ix0
      unfold Cert.Pre_first_session_begun.fn at h0
      exact h0)
  obtain ⟨t, rfl⟩ : ∃ t : Fin 32768, i = ix1 t := ⟨i 0, eq_ix1 i⟩
  refine ⟨t, ?_⟩
  by_contra hn
  refine hi ?_
  show BitVec.ofBool (decide ((x1 (ix1 t)).toInt ≤ (0#32 : BitVec 32).toInt)) = 0#1
  rw [decide_eq_false (by simpa using hn)]
  rfl

/-- The number of tokens at or below every session is at least one. -/
theorem cnt_pos (b : Fin 32768 → BitVec 32) (h : ∃ t, (b t).toInt ≤ 0) (s : Fin 16) : 1 ≤ Score.cnt b s.val := by
  obtain ⟨t, ht⟩ := h
  have hs := s.isLt
  refine Finset.card_pos.2 ⟨t, ?_⟩
  simp only [Finset.mem_filter, Finset.mem_univ, true_and]
  rw [BitVec.sle, decide_eq_true_iff, Cert.ReferenceIdeal.Hand.toInt_small _ (by omega)]
  omega

end Cert.PreHand

end
-- ==== Proof.lean ====
/- The claims about the session-graph scorer. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ends
public import proofs.«01_k».proof.Proof.IdealEnds
public import proofs.«01_k».proof.Proof.IdealOut
public import proofs.«01_k».proof.Proof.RefValue
public import proofs.«01_k».proof.Proof.Pre
public import Idealize.ShloMosaic.Adequacy
public import Idealize.ShloMosaic.Init

@[expose] public section

noncomputable section

namespace Cert.Proof

open Idealize.ShloMosaic Idealize.SL.Sem Cert.Kernel

theorem frame_k : Cert.quiescent_Kernel := fun m ρ _ => Cert.Kernel.Hand.frame m ρ

theorem frame_ki : Cert.quiescent_KernelIdeal := fun m ρ _ => Cert.KernelIdeal.Hand.frame m ρ

theorem frame_ki_pre : Cert.quiescent_KernelIdeal_pre_first_session_begun (hPre_first_session_begun := Cert.PreHand.facts) :=
  fun m ρ _ => Cert.KernelIdeal.Hand.frame m ρ

/-- The reference has no semaphore: every counter is trivially zero. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ri_pre : Cert.quiescent_ReferenceIdeal_pre_first_session_begun (hPre_first_session_begun := Cert.PreHand.facts) :=
  fun m ρ _ => frame_ri m ρ trivial

/-- Kernel and reference both end with the scores. -/
theorem algebraic : Cert.algebraic_KernelIdeal_ReferenceIdeal_pre_first_session_begun
    (hPre_first_session_begun := Cert.PreHand.facts) := by
  intro m g m' g' hPre hargs
  refine ⟨fun c => fun i => Cert.KernelIdeal.Hand.scoreOf m c (i 0).val (i 1), ?_, ?_⟩
  · exact (θ_run Cert.KernelIdeal.defs _ _).mono
      (fun r h c => ⟨Cert.KernelIdeal.Hand.out_at m c r.2 (h.1 c), Cert.KernelIdeal.Hand.args_kept m c r.2 (h.1 c)⟩)
      (Cert.KernelIdeal.Hand.run_main m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10⟩ := hargs c
    have hc := Cert.PreHand.cnt_pos _ (Cert.PreHand.some_begun _ _ _ _ _ _ _ _ _ _ _ (hPre c))
    refine (Cert.ReferenceIdeal.Read.val_main_v49_eq m' c).trans ?_
    rw [e0, e1, e2, e3, e4, e5, e6, e7, e8, e9, e10]
    funext i
    obtain ⟨s, v, rfl⟩ : ∃ (s : Fin 16) (v : Fin 100000), i = ValueIdx.ix2 s v := ⟨i 0, i 1, ValueIdx.eq_ix2 i⟩
    exact Cert.ReferenceIdeal.Hand.score_at _ _ _ _ _ _ _ _ _ _ _ hc s v

theorem claim : Cert.Claim := ⟨Cert.Kernel.Gen.facts, Cert.KernelIdeal.Gen.facts, Cert.ReferenceIdeal.Gen.facts,
  Cert.PreHand.facts, frame_k, frame_ki, frame_ki_pre, frame_ri, frame_ri_pre, trivial, algebraic⟩

end Cert.Proof

end
